-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S15x1x2 : Shape := ⟨3, ![15, 1, 2]⟩
abbrev S15x50000x2 : Shape := ⟨3, ![15, 50000, 2]⟩
abbrev S15x50000 : Shape := ⟨2, ![15, 50000]⟩
abbrev S256x2 : Shape := ⟨2, ![256, 2]⟩
abbrev S256 : Shape := ⟨1, ![256]⟩
abbrev S256x64 : Shape := ⟨2, ![256, 64]⟩
abbrev S64x1024 : Shape := ⟨2, ![64, 1024]⟩
abbrev S64 : Shape := ⟨1, ![64]⟩
abbrev S64x64 : Shape := ⟨2, ![64, 64]⟩
abbrev S2x64 : Shape := ⟨2, ![2, 64]⟩
abbrev S2 : Shape := ⟨1, ![2]⟩
abbrev S_ : Shape := ⟨0, ![]⟩
abbrev S15x50176x2 : Shape := ⟨3, ![15, 50176, 2]⟩
abbrev S15x2x50176 : Shape := ⟨3, ![15, 2, 50176]⟩
abbrev S1x50000 : Shape := ⟨2, ![1, 50000]⟩
abbrev S1x50176 : Shape := ⟨2, ![1, 50176]⟩
abbrev S15x2 : Shape := ⟨2, ![15, 2]⟩
abbrev S1x2 : Shape := ⟨2, ![1, 2]⟩
abbrev S1x256 : Shape := ⟨2, ![1, 256]⟩
abbrev S256x128 : Shape := ⟨2, ![256, 128]⟩
abbrev S1 : Shape := ⟨1, ![1]⟩
abbrev S128x1 : Shape := ⟨2, ![128, 1]⟩
abbrev S64x1 : Shape := ⟨2, ![64, 1]⟩
abbrev S256x1 : Shape := ⟨2, ![256, 1]⟩
abbrev S1024x64 : Shape := ⟨2, ![1024, 64]⟩
abbrev S16x64x64 : Shape := ⟨3, ![16, 64, 64]⟩
abbrev S49x16x64 : Shape := ⟨3, ![49, 16, 64]⟩
abbrev S15x2x1024 : Shape := ⟨3, ![15, 2, 1024]⟩
abbrev S1x1024 : Shape := ⟨2, ![1, 1024]⟩
abbrev S1x16x64 : Shape := ⟨3, ![1, 16, 64]⟩
abbrev S2x128x512 : Shape := ⟨3, ![2, 128, 512]⟩
abbrev S2x64x512 : Shape := ⟨3, ![2, 64, 512]⟩
abbrev S1x512 : Shape := ⟨2, ![1, 512]⟩
abbrev S1x1x512 : Shape := ⟨3, ![1, 1, 512]⟩
abbrev S1x2x512 : Shape := ⟨3, ![1, 2, 512]⟩
abbrev S64x512 : Shape := ⟨2, ![64, 512]⟩
abbrev S1x64x512 : Shape := ⟨3, ![1, 64, 512]⟩
abbrev S1x2x1024 : Shape := ⟨3, ![1, 2, 1024]⟩
abbrev S2x1024 : Shape := ⟨2, ![2, 1024]⟩
abbrev S2x512 : Shape := ⟨2, ![2, 512]⟩
abbrev S1x128x512 : Shape := ⟨3, ![1, 128, 512]⟩
abbrev S128x512 : Shape := ⟨2, ![128, 512]⟩
abbrev S256x512 : Shape := ⟨2, ![256, 512]⟩
abbrev S16x64 : Shape := ⟨2, ![16, 64]⟩
abbrev S1x1 : Shape := ⟨2, ![1, 1]⟩
abbrev S16x512 : Shape := ⟨2, ![16, 512]⟩
abbrev S2x256 : Shape := ⟨2, ![2, 256]⟩
abbrev S64x256 : Shape := ⟨2, ![64, 256]⟩
abbrev S1x64 : Shape := ⟨2, ![1, 64]⟩
abbrev S64x2 : Shape := ⟨2, ![64, 2]⟩
abbrev S1x1x2 : Shape := ⟨3, ![1, 1, 2]⟩
abbrev S1x64x64 : Shape := ⟨3, ![1, 64, 64]⟩

abbrev nBuf : Space → Nat
  | .hbm => 59
  | .vmem => 24
  | .smem => 0
  | _ => 0

abbrev bufTy : (tb : Table) → Fin (tcTables nBuf tb) → BufTy
  | .hbm, ⟨0, _⟩ => ⟨S15x1x2, .f32⟩
  | .hbm, ⟨1, _⟩ => ⟨S15x50000x2, .f32⟩
  | .hbm, ⟨2, _⟩ => ⟨S15x50000, .i32⟩
  | .hbm, ⟨3, _⟩ => ⟨S256x2, .f32⟩
  | .hbm, ⟨4, _⟩ => ⟨S256, .f32⟩
  | .hbm, ⟨5, _⟩ => ⟨S256x64, .f32⟩
  | .hbm, ⟨6, _⟩ => ⟨S256, .f32⟩
  | .hbm, ⟨7, _⟩ => ⟨S64x1024, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S2x64, .f32⟩
  | .hbm, ⟨12, _⟩ => ⟨S2, .f32⟩
  | .hbm, ⟨13, _⟩ => ⟨S_, .i32⟩
  | .hbm, ⟨14, _⟩ => ⟨S_, .f32⟩
  | .hbm, ⟨15, _⟩ => ⟨S15x50176x2, .f32⟩
  | .hbm, ⟨16, _⟩ => ⟨S15x2x50176, .f32⟩
  | .hbm, ⟨17, _⟩ => ⟨S1x50000, .i32⟩
  | .hbm, ⟨18, _⟩ => ⟨S_, .i32⟩
  | .hbm, ⟨19, _⟩ => ⟨S_, .i32⟩
  | .hbm, ⟨20, _⟩ => ⟨S1x50176, .i32⟩
  | .hbm, ⟨21, _⟩ => ⟨S15x2, .f32⟩
  | .hbm, ⟨22, _⟩ => ⟨S1x2, .f32⟩
  | .hbm, ⟨23, _⟩ => ⟨S256, .f32⟩
  | .hbm, ⟨24, _⟩ => ⟨S1x256, .f32⟩
  | .hbm, ⟨25, _⟩ => ⟨S_, .f32⟩
  | .hbm, ⟨26, _⟩ => ⟨S256x128, .f32⟩
  | .hbm, ⟨27, _⟩ => ⟨S_, .i32⟩
  | .hbm, ⟨28, _⟩ => ⟨S1, .i32⟩
  | .hbm, ⟨29, _⟩ => ⟨S256x128, .f32⟩
  | .hbm, ⟨30, _⟩ => ⟨S256, .f32⟩
  | .hbm, ⟨31, _⟩ => ⟨S_, .i32⟩
  | .hbm, ⟨32, _⟩ => ⟨S1, .i32⟩
  | .hbm, ⟨33, _⟩ => ⟨S256x128, .f32⟩
  | .hbm, ⟨34, _⟩ => ⟨S_, .i32⟩
  | .hbm, ⟨35, _⟩ => ⟨S1, .i32⟩
  | .hbm, ⟨36, _⟩ => ⟨S256x128, .f32⟩
  | .hbm, ⟨37, _⟩ => ⟨S_, .f32⟩
  | .hbm, ⟨38, _⟩ => ⟨S128x1, .f32⟩
  | .hbm, ⟨39, _⟩ => ⟨S_, .f32⟩
  | .hbm, ⟨40, _⟩ => ⟨S64x1, .f32⟩
  | .hbm, ⟨41, _⟩ => ⟨S_, .f32⟩
  | .hbm, ⟨42, _⟩ => ⟨S64x1, .f32⟩
  | .hbm, ⟨43, _⟩ => ⟨S256x1, .f32⟩
  | .hbm, ⟨44, _⟩ => ⟨S256x128, .f32⟩
  | .hbm, ⟨45, _⟩ => ⟨S256x128, .f32⟩
  | .hbm, ⟨46, _⟩ => ⟨S15x1x2, .f32⟩
  | .hbm, ⟨47, _⟩ => ⟨S1024x64, .f32⟩
  | .hbm, ⟨48, _⟩ => ⟨S16x64x64, .f32⟩
  | .hbm, ⟨49, _⟩ => ⟨S256x128, .bf16⟩
  | .hbm, ⟨50, _⟩ => ⟨S49x16x64, .f32⟩
  | .hbm, ⟨51, _⟩ => ⟨S2x256, .f32⟩
  | .hbm, ⟨52, _⟩ => ⟨S64x256, .f32⟩
  | .hbm, ⟨53, _⟩ => ⟨S1x64, .f32⟩
  | .hbm, ⟨54, _⟩ => ⟨S64x64, .f32⟩
  | .hbm, ⟨55, _⟩ => ⟨S1x64, .f32⟩
  | .hbm, ⟨56, _⟩ => ⟨S64x2, .f32⟩
  | .hbm, ⟨57, _⟩ => ⟨S1x2, .f32⟩
  | .hbm, ⟨58, _⟩ => ⟨S1x2, .f32⟩
  | .local _ .vmem, ⟨0, _⟩ => ⟨S15x2x1024, .f32⟩
  | .local _ .vmem, ⟨1, _⟩ => ⟨S15x2x1024, .f32⟩
  | .local _ .vmem, ⟨2, _⟩ => ⟨S1x1024, .i32⟩
  | .local _ .vmem, ⟨3, _⟩ => ⟨S1x1024, .i32⟩
  | .local _ .vmem, ⟨4, _⟩ => ⟨S1x2, .f32⟩
  | .local _ .vmem, ⟨5, _⟩ => ⟨S256x128, .bf16⟩
  | .local _ .vmem, ⟨6, _⟩ => ⟨S256x128, .f32⟩
  | .local _ .vmem, ⟨7, _⟩ => ⟨S1x16x64, .f32⟩
  | .local _ .vmem, ⟨8, _⟩ => ⟨S1x16x64, .f32⟩
  | .local _ .vmem, ⟨9, _⟩ => ⟨S2x128x512, .bf16⟩
  | .local _ .vmem, ⟨10, _⟩ => ⟨S2x128x512, .f32⟩
  | .local _ .vmem, ⟨11, _⟩ => ⟨S2x64x512, .f32⟩
  | .local _ .vmem, ⟨12, _⟩ => ⟨S49x16x64, .f32⟩
  | .local _ .vmem, ⟨13, _⟩ => ⟨S15x1x2, .f32⟩
  | .local _ .vmem, ⟨14, _⟩ => ⟨S2x256, .f32⟩
  | .local _ .vmem, ⟨15, _⟩ => ⟨S64x256, .f32⟩
  | .local _ .vmem, ⟨16, _⟩ => ⟨S1x256, .f32⟩
  | .local _ .vmem, ⟨17, _⟩ => ⟨S16x64x64, .f32⟩
  | .local _ .vmem, ⟨18, _⟩ => ⟨S1x64, .f32⟩
  | .local _ .vmem, ⟨19, _⟩ => ⟨S64x64, .f32⟩
  | .local _ .vmem, ⟨20, _⟩ => ⟨S1x64, .f32⟩
  | .local _ .vmem, ⟨21, _⟩ => ⟨S64x2, .f32⟩
  | .local _ .vmem, ⟨22, _⟩ => ⟨S1x2, .f32⟩
  | .local _ .vmem, ⟨23, _⟩ => ⟨S1x2, .f32⟩
  | _, _ => ⟨S15x1x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_call1_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_c_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_cst_5 : Ref sig .tc := ⟨.hbm, 39, rfl⟩
abbrev main_v17 : Ref sig .tc := ⟨.hbm, 40, rfl⟩
abbrev main_cst_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20

abbrev nD : Nat := 1
abbrev τ : Topo := Topo.v7x

variable {F : FTy → Type} [FloatOps F]

abbrev grid0 : Pipeline.Grid := ⟨1, ![49], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S15x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

abbrev stage1_0 : Fin 1 → Memref sig .tc .vmem S49x16x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S15x1x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S16x64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S64x2 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x2 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1x2 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
-- ==== ReferenceIdeal.lean ====
abbrev S15x1x2 : Shape := ⟨3, ![15, 1, 2]⟩
abbrev S15x50000x2 : Shape := ⟨3, ![15, 50000, 2]⟩
abbrev S15x50000 : Shape := ⟨2, ![15, 50000]⟩
abbrev S256x2 : Shape := ⟨2, ![256, 2]⟩
abbrev S256 : Shape := ⟨1, ![256]⟩
abbrev S256x64 : Shape := ⟨2, ![256, 64]⟩
abbrev S64x1024 : Shape := ⟨2, ![64, 1024]⟩
abbrev S64 : Shape := ⟨1, ![64]⟩
abbrev S64x64 : Shape := ⟨2, ![64, 64]⟩
abbrev S2x64 : Shape := ⟨2, ![2, 64]⟩
abbrev S2 : Shape := ⟨1, ![2]⟩
abbrev S_ : Shape := ⟨0, ![]⟩
abbrev S1x64 : Shape := ⟨2, ![1, 64]⟩
abbrev S50000x64 : Shape := ⟨2, ![50000, 64]⟩
abbrev S15x2 : Shape := ⟨2, ![15, 2]⟩
abbrev S1x2 : Shape := ⟨2, ![1, 2]⟩
abbrev S1x50000x2 : Shape := ⟨3, ![1, 50000, 2]⟩
abbrev S50000x2 : Shape := ⟨2, ![50000, 2]⟩
abbrev S1x50000 : Shape := ⟨2, ![1, 50000]⟩
abbrev S50000 : Shape := ⟨1, ![50000]⟩
abbrev S2x256 : Shape := ⟨2, ![2, 256]⟩
abbrev S1x256 : Shape := ⟨2, ![1, 256]⟩
abbrev S64x256 : Shape := ⟨2, ![64, 256]⟩
abbrev S50000x256 : Shape := ⟨2, ![50000, 256]⟩
abbrev S50000x1 : Shape := ⟨2, ![50000, 1]⟩
abbrev S16x64 : Shape := ⟨2, ![16, 64]⟩
abbrev S1x1024 : Shape := ⟨2, ![1, 1024]⟩
abbrev S1024x64 : Shape := ⟨2, ![1024, 64]⟩
abbrev S64x2 : Shape := ⟨2, ![64, 2]⟩

abbrev nBuf : Space → Nat
  | .hbm => 246
  | .vmem => 0
  | .smem => 0
  | _ => 0

abbrev hbmTy0_0 (i : Nat) : BufTy := match i % 128 with
  | 0 => ⟨S15x1x2, .f32⟩
  | 1 => ⟨S15x50000x2, .f32⟩
  | 2 => ⟨S15x50000, .i32⟩
  | 3 => ⟨S256x2, .f32⟩
  | 4 => ⟨S256, .f32⟩
  | 5 => ⟨S256x64, .f32⟩
  | 6 => ⟨S256, .f32⟩
  | 7 => ⟨S64x1024, .f32⟩
  | 8 => ⟨S64, .f32⟩
  | 9 => ⟨S64x64, .f32⟩
  | 10 => ⟨S64, .f32⟩
  | 11 => ⟨S2x64, .f32⟩
  | 12 => ⟨S2, .f32⟩
  | 13 => ⟨S_, .f32⟩
  | 14 => ⟨S1x64, .f32⟩
  | 15 => ⟨S_, .f32⟩
  | 16 => ⟨S1x64, .f32⟩
  | 17 => ⟨S_, .f32⟩
  | 18 => ⟨S50000x64, .f32⟩
  | 19 => ⟨S_, .f32⟩
  | 20 => ⟨S50000x64, .f32⟩
  | 21 => ⟨S_, .f32⟩
  | 22 => ⟨S1x64, .f32⟩
  | 23 => ⟨S15x2, .f32⟩
  | 24 => ⟨S_, .i32⟩
  | 25 => ⟨S15x2, .f32⟩
  | 26 => ⟨S15x50000x2, .f32⟩
  | 27 => ⟨S15x50000, .i32⟩
  | 28 => ⟨S256x2, .f32⟩
  | 29 => ⟨S256, .f32⟩
  | 30 => ⟨S256x64, .f32⟩
  | 31 => ⟨S256, .f32⟩
  | 32 => ⟨S64x1024, .f32⟩
  | 33 => ⟨S64, .f32⟩
  | 34 => ⟨S64x64, .f32⟩
  | 35 => ⟨S64, .f32⟩
  | 36 => ⟨S_, .i32⟩
  | 37 => ⟨S1x64, .f32⟩
  | 38 => ⟨S1x64, .f32⟩
  | 39 => ⟨S50000x64, .f32⟩
  | 40 => ⟨S50000x64, .f32⟩
  | 41 => ⟨S1x64, .f32⟩
  | 42 => ⟨S_, .i32⟩
  | 43 => ⟨S_, .i1⟩
  | 44 => ⟨S_, .i32⟩
  | 45 => ⟨S1x2, .f32⟩
  | 46 => ⟨S2, .f32⟩
  | 47 => ⟨S_, .i32⟩
  | 48 => ⟨S_, .i32⟩
  | 49 => ⟨S1x50000x2, .f32⟩
  | 50 => ⟨S50000x2, .f32⟩
  | 51 => ⟨S_, .i32⟩
  | 52 => ⟨S1x50000, .i32⟩
  | 53 => ⟨S50000, .i32⟩
  | 54 => ⟨S1x2, .f32⟩
  | 55 => ⟨S2x256, .f32⟩
  | 56 => ⟨S1x256, .f32⟩
  | 57 => ⟨S1x256, .f32⟩
  | 58 => ⟨S1x256, .f32⟩
  | 59 => ⟨S64x256, .f32⟩
  | 60 => ⟨S1x256, .f32⟩
  | 61 => ⟨S1x256, .f32⟩
  | 62 => ⟨S1x256, .f32⟩
  | 63 => ⟨S1x256, .f32⟩
  | 64 => ⟨S1x64, .f32⟩
  | 65 => ⟨S1x64, .f32⟩
  | 66 => ⟨S1x64, .f32⟩
  | 67 => ⟨S1x64, .f32⟩
  | 68 => ⟨S1x64, .f32⟩
  | 69 => ⟨S1x64, .f32⟩
  | 70 => ⟨S_, .f32⟩
  | 71 => ⟨S1x64, .f32⟩
  | 72 => ⟨S1x64, .f32⟩
  | 73 => ⟨S_, .f32⟩
  | 74 => ⟨S1x64, .f32⟩
  | 75 => ⟨S1x64, .f32⟩
  | 76 => ⟨S1x64, .f32⟩
  | 77 => ⟨S1x64, .f32⟩
  | 78 => ⟨S1x64, .f32⟩
  | 79 => ⟨S_, .f32⟩
  | 80 => ⟨S1x64, .f32⟩
  | 81 => ⟨S1x64, .f32⟩
  | 82 => ⟨S_, .f32⟩
  | 83 => ⟨S1x64, .f32⟩
  | 84 => ⟨S1x64, .f32⟩
  | 85 => ⟨S1x64, .f32⟩
  | 86 => ⟨S1x64, .f32⟩
  | 87 => ⟨S1x64, .f32⟩
  | 88 => ⟨S1x64, .f32⟩
  | 89 => ⟨S1x64, .f32⟩
  | 90 => ⟨S_, .f32⟩
  | 91 => ⟨S1x64, .f32⟩
  | 92 => ⟨S1x64, .f32⟩
  | 93 => ⟨S_, .f32⟩
  | 94 => ⟨S1x64, .f32⟩
  | 95 => ⟨S1x64, .f32⟩
  | 96 => ⟨S1x64, .f32⟩
  | 97 => ⟨S1x64, .f32⟩
  | 98 => ⟨S2x256, .f32⟩
  | 99 => ⟨S50000x256, .f32⟩
  | 100 => ⟨S1x256, .f32⟩
  | 101 => ⟨S50000x256, .f32⟩
  | 102 => ⟨S50000x256, .f32⟩
  | 103 => ⟨S64x256, .f32⟩
  | 104 => ⟨S50000x256, .f32⟩
  | 105 => ⟨S50000x256, .f32⟩
  | 106 => ⟨S1x256, .f32⟩
  | 107 => ⟨S50000x256, .f32⟩
  | 108 => ⟨S50000x256, .f32⟩
  | 109 => ⟨S50000x64, .f32⟩
  | 110 => ⟨S50000x64, .f32⟩
  | 111 => ⟨S50000x64, .f32⟩
  | 112 => ⟨S50000x64, .f32⟩
  | 113 => ⟨S50000x64, .f32⟩
  | 114 => ⟨S50000x64, .f32⟩
  | 115 => ⟨S_, .f32⟩
  | 116 => ⟨S50000x64, .f32⟩
  | 117 => ⟨S50000x64, .f32⟩
  | 118 => ⟨S_, .f32⟩
  | 119 => ⟨S50000x64, .f32⟩
  | 120 => ⟨S50000x64, .f32⟩
  | 121 => ⟨S50000x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S_, .f32⟩
  | _ => ⟨S15x1x2, .f32⟩

abbrev hbmTy0_1 (i : Nat) : BufTy := match i % 128 with
  | 0 => ⟨S50000x64, .f32⟩
  | 1 => ⟨S50000x64, .f32⟩
  | 2 => ⟨S50000x64, .f32⟩
  | 3 => ⟨S50000x64, .f32⟩
  | 4 => ⟨S50000x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S_, .f32⟩
  | 11 => ⟨S50000x64, .f32⟩
  | 12 => ⟨S50000x64, .f32⟩
  | 13 => ⟨S50000x64, .f32⟩
  | 14 => ⟨S50000x64, .f32⟩
  | 15 => ⟨S1x2, .f32⟩
  | 16 => ⟨S50000x2, .f32⟩
  | 17 => ⟨S50000x2, .f32⟩
  | 18 => ⟨S50000x1, .f32⟩
  | 19 => ⟨S50000, .f32⟩
  | 20 => ⟨S50000, .f32⟩
  | 21 => ⟨S_, .f32⟩
  | 22 => ⟨S50000, .f32⟩
  | 23 => ⟨S50000, .i1⟩
  | 24 => ⟨S50000x1, .f32⟩
  | 25 => ⟨S50000, .f32⟩
  | 26 => ⟨S50000, .f32⟩
  | 27 => ⟨S_, .f32⟩
  | 28 => ⟨S50000, .f32⟩
  | 29 => ⟨S50000, .i1⟩
  | 30 => ⟨S50000, .i1⟩
  | 31 => ⟨S50000x1, .f32⟩
  | 32 => ⟨S50000, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .i1⟩
  | 39 => ⟨S50000, .f32⟩
  | 40 => ⟨S50000, .f32⟩
  | 41 => ⟨S50000, .f32⟩
  | 42 => ⟨S50000, .i32⟩
  | 43 => ⟨S_, .i32⟩
  | 44 => ⟨S50000, .i32⟩
  | 45 => ⟨S50000, .i32⟩
  | 46 => ⟨S50000x1, .f32⟩
  | 47 => ⟨S50000, .f32⟩
  | 48 => ⟨S_, .f32⟩
  | 49 => ⟨S50000, .f32⟩
  | 50 => ⟨S50000, .f32⟩
  | 51 => ⟨S_, .f32⟩
  | 52 => ⟨S50000, .f32⟩
  | 53 => ⟨S50000, .i1⟩
  | 54 => ⟨S50000, .f32⟩
  | 55 => ⟨S50000, .f32⟩
  | 56 => ⟨S50000, .f32⟩
  | 57 => ⟨S50000, .i32⟩
  | 58 => ⟨S_, .i32⟩
  | 59 => ⟨S50000, .i32⟩
  | 60 => ⟨S50000, .i32⟩
  | 61 => ⟨S_, .i32⟩
  | 62 => ⟨S50000, .i32⟩
  | 63 => ⟨S50000, .i1⟩
  | 64 => ⟨S50000, .i1⟩
  | 65 => ⟨S_, .i32⟩
  | 66 => ⟨S50000, .i32⟩
  | 67 => ⟨S50000, .i1⟩
  | 68 => ⟨S50000, .i1⟩
  | 69 => ⟨S_, .i32⟩
  | 70 => ⟨S50000, .i32⟩
  | 71 => ⟨S50000, .i1⟩
  | 72 => ⟨S50000, .i1⟩
  | 73 => ⟨S_, .i32⟩
  | 74 => ⟨S50000, .i32⟩
  | 75 => ⟨S50000, .i1⟩
  | 76 => ⟨S50000, .i1⟩
  | 77 => ⟨S_, .i32⟩
  | 78 => ⟨S50000, .i32⟩
  | 79 => ⟨S50000, .i1⟩
  | 80 => ⟨S50000, .i1⟩
  | 81 => ⟨S_, .i32⟩
  | 82 => ⟨S50000, .i32⟩
  | 83 => ⟨S50000, .i32⟩
  | 84 => ⟨S50000, .i32⟩
  | 85 => ⟨S_, .i32⟩
  | 86 => ⟨S_, .i32⟩
  | 87 => ⟨S50000, .i32⟩
  | 88 => ⟨S50000, .i32⟩
  | 89 => ⟨S50000x1, .i1⟩
  | 90 => ⟨S_, .f32⟩
  | 91 => ⟨S_, .f32⟩
  | 92 => ⟨S50000x64, .i1⟩
  | 93 => ⟨S50000x64, .f32⟩
  | 94 => ⟨S50000x64, .f32⟩
  | 95 => ⟨S_, .f32⟩
  | 96 => ⟨S16x64, .f32⟩
  | 97 => ⟨S50000x1, .i32⟩
  | 98 => ⟨S16x64, .f32⟩
  | 99 => ⟨S1x1024, .f32⟩
  | 100 => ⟨S1024x64, .f32⟩
  | 101 => ⟨S1x64, .f32⟩
  | 102 => ⟨S1x64, .f32⟩
  | 103 => ⟨S1x64, .f32⟩
  | 104 => ⟨S_, .f32⟩
  | 105 => ⟨S1x64, .f32⟩
  | 106 => ⟨S1x64, .f32⟩
  | 107 => ⟨S64x64, .f32⟩
  | 108 => ⟨S1x64, .f32⟩
  | 109 => ⟨S1x64, .f32⟩
  | 110 => ⟨S1x64, .f32⟩
  | 111 => ⟨S1x64, .f32⟩
  | 112 => ⟨S_, .i32⟩
  | 113 => ⟨S_, .i32⟩
  | 114 => ⟨S64x2, .f32⟩
  | 115 => ⟨S1x2, .f32⟩
  | 116 => ⟨S1x2, .f32⟩
  | 117 => ⟨S1x2, .f32⟩
  | _ => ⟨S15x1x2, .f32⟩

abbrev hbmTy (i : Nat) : BufTy := match i / 128 with
  | 0 => hbmTy0_0 i
  | 1 => hbmTy0_1 i
  | _ => ⟨S15x1x2, .f32⟩

abbrev bufTy : (tb : Table) → Fin (tcTables nBuf tb) → BufTy
  | .hbm, ⟨i, _⟩ => hbmTy i
  | _, _ => ⟨S15x1x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_cst_1 : Ref sig .tc := ⟨.hbm, 17, rfl⟩
abbrev main_v2 : Ref sig .tc := ⟨.hbm, 18, rfl⟩
abbrev main_cst_2 : Ref sig .tc := ⟨.hbm, 19, rfl⟩
abbrev main_v3 : Ref sig .tc := ⟨.hbm, 20, rfl⟩
abbrev main_cst_3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6_0 : Ref sig .tc := ⟨.hbm, 25, rfl⟩
abbrev main_v6_1 : Ref sig .tc := ⟨.hbm, 26, rfl⟩
abbrev main_v6_2 : Ref sig .tc := ⟨.hbm, 27, rfl⟩
abbrev main_v6_3 : Ref sig .tc := ⟨.hbm, 28, rfl⟩
abbrev main_v6_4 : Ref sig .tc := ⟨.hbm, 29, rfl⟩
abbrev main_v6_5 : Ref sig .tc := ⟨.hbm, 30, rfl⟩
abbrev main_v6_6 : Ref sig .tc := ⟨.hbm, 31, rfl⟩
abbrev main_v6_7 : Ref sig .tc := ⟨.hbm, 32, rfl⟩
abbrev main_v6_8 : Ref sig .tc := ⟨.hbm, 33, rfl⟩
abbrev main_v6_9 : Ref sig .tc := ⟨.hbm, 34, rfl⟩
abbrev main_v6_10 : Ref sig .tc := ⟨.hbm, 35, rfl⟩
abbrev main_v6_11 : Ref sig .tc := ⟨.hbm, 36, rfl⟩
abbrev main_v6_12 : Ref sig .tc := ⟨.hbm, 37, rfl⟩
abbrev main_v6_13 : Ref sig .tc := ⟨.hbm, 38, rfl⟩
abbrev main_v6_14 : Ref sig .tc := ⟨.hbm, 39, rfl⟩
abbrev main_v6_15 : Ref sig .tc := ⟨.hbm, 40, rfl⟩
abbrev main_v6_16 : Ref sig .tc := ⟨.hbm, 41, rfl⟩
abbrev main_while0c_c_20 : Ref sig .tc := ⟨.hbm, 42, rfl⟩
abbrev main_while0c_v11 : Ref sig .tc := ⟨.hbm, 43, rfl⟩
abbrev main_while0b_call0_c : Ref sig .tc := ⟨.hbm, 44, rfl⟩
abbrev main_while0b_call0_v0 : Ref sig .tc := ⟨.hbm, 45, rfl⟩
abbrev main_while0b_v11 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_v0 : Ref sig .tc := ⟨.hbm, 49, rfl⟩
abbrev main_while0b_v12 : Ref sig .tc := ⟨.hbm, 50, rfl⟩
abbrev main_while0b_call2_c : Ref sig .tc := ⟨.hbm, 51, rfl⟩
abbrev main_while0b_call2_v0 : Ref sig .tc := ⟨.hbm, 52, rfl⟩
abbrev main_while0b_v13 : Ref sig .tc := ⟨.hbm, 53, rfl⟩
abbrev main_while0b_v14 : Ref sig .tc := ⟨.hbm, 54, rfl⟩
abbrev main_while0b_v15 : Ref sig .tc := ⟨.hbm, 55, rfl⟩
abbrev main_while0b_v16 : Ref sig .tc := ⟨.hbm, 56, rfl⟩
abbrev main_while0b_v17 : Ref sig .tc := ⟨.hbm, 57, rfl⟩
abbrev main_while0b_v18 : Ref sig .tc := ⟨.hbm, 58, rfl⟩
abbrev main_while0b_v19 : Ref sig .tc := ⟨.hbm, 59, rfl⟩
abbrev main_while0b_v20 : Ref sig .tc := ⟨.hbm, 60, rfl⟩
abbrev main_while0b_v21 : Ref sig .tc := ⟨.hbm, 61, rfl⟩
abbrev main_while0b_v22 : Ref sig .tc := ⟨.hbm, 62, rfl⟩
abbrev main_while0b_v23 : Ref sig .tc := ⟨.hbm, 63, rfl⟩
abbrev main_while0b_v24 : Ref sig .tc := ⟨.hbm, 64, rfl⟩
abbrev main_while0b_v25 : Ref sig .tc := ⟨.hbm, 65, rfl⟩
abbrev main_while0b_v26 : Ref sig .tc := ⟨.hbm, 66, rfl⟩
abbrev main_while0b_v27 : Ref sig .tc := ⟨.hbm, 67, rfl⟩
abbrev main_while0b_v28 : Ref sig .tc := ⟨.hbm, 68, rfl⟩
abbrev main_while0b_v29 : Ref sig .tc := ⟨.hbm, 69, rfl⟩
abbrev main_while0b_cst_20 : Ref sig .tc := ⟨.hbm, 70, rfl⟩
abbrev main_while0b_v30 : Ref sig .tc := ⟨.hbm, 71, rfl⟩
abbrev main_while0b_v31 : Ref sig .tc := ⟨.hbm, 72, rfl⟩
abbrev main_while0b_cst_21 : Ref sig .tc := ⟨.hbm, 73, rfl⟩
abbrev main_while0b_v32 : Ref sig .tc := ⟨.hbm, 74, rfl⟩
abbrev main_while0b_v33 : Ref sig .tc := ⟨.hbm, 75, rfl⟩
abbrev main_while0b_v34 : Ref sig .tc := ⟨.hbm, 76, rfl⟩
abbrev main_while0b_v35 : Ref sig .tc := ⟨.hbm, 77, rfl⟩
abbrev main_while0b_v36 : Ref sig .tc := ⟨.hbm, 78, rfl⟩
abbrev main_while0b_cst_22 : Ref sig .tc := ⟨.hbm, 79, rfl⟩
abbrev main_while0b_v37 : Ref sig .tc := ⟨.hbm, 80, rfl⟩
abbrev main_while0b_v38 : Ref sig .tc := ⟨.hbm, 81, rfl⟩
abbrev main_while0b_cst_23 : Ref sig .tc := ⟨.hbm, 82, rfl⟩
abbrev main_while0b_v39 : Ref sig .tc := ⟨.hbm, 83, rfl⟩
abbrev main_while0b_v40 : Ref sig .tc := ⟨.hbm, 84, rfl⟩
abbrev main_while0b_v41 : Ref sig .tc := ⟨.hbm, 85, rfl⟩
abbrev main_while0b_v42 : Ref sig .tc := ⟨.hbm, 86, rfl⟩
abbrev main_while0b_v43 : Ref sig .tc := ⟨.hbm, 87, rfl⟩
abbrev main_while0b_v44 : Ref sig .tc := ⟨.hbm, 88, rfl⟩
abbrev main_while0b_v45 : Ref sig .tc := ⟨.hbm, 89, rfl⟩
abbrev main_while0b_cst_24 : Ref sig .tc := ⟨.hbm, 90, rfl⟩
abbrev main_while0b_v46 : Ref sig .tc := ⟨.hbm, 91, rfl⟩
abbrev main_while0b_v47 : Ref sig .tc := ⟨.hbm, 92, rfl⟩
abbrev main_while0b_cst_25 : Ref sig .tc := ⟨.hbm, 93, rfl⟩
abbrev main_while0b_v48 : Ref sig .tc := ⟨.hbm, 94, rfl⟩
abbrev main_while0b_v49 : Ref sig .tc := ⟨.hbm, 95, rfl⟩
abbrev main_while0b_v50 : Ref sig .tc := ⟨.hbm, 96, rfl⟩
abbrev main_while0b_v51 : Ref sig .tc := ⟨.hbm, 97, rfl⟩
abbrev main_while0b_v52 : Ref sig .tc := ⟨.hbm, 98, rfl⟩
abbrev main_while0b_v53 : Ref sig .tc := ⟨.hbm, 99, rfl⟩
abbrev main_while0b_v54 : Ref sig .tc := ⟨.hbm, 100, rfl⟩
abbrev main_while0b_v55 : Ref sig .tc := ⟨.hbm, 101, rfl⟩
abbrev main_while0b_v56 : Ref sig .tc := ⟨.hbm, 102, rfl⟩
abbrev main_while0b_v57 : Ref sig .tc := ⟨.hbm, 103, rfl⟩
abbrev main_while0b_v58 : Ref sig .tc := ⟨.hbm, 104, rfl⟩
abbrev main_while0b_v59 : Ref sig .tc := ⟨.hbm, 105, rfl⟩
abbrev main_while0b_v60 : Ref sig .tc := ⟨.hbm, 106, rfl⟩
abbrev main_while0b_v61 : Ref sig .tc := ⟨.hbm, 107, rfl⟩
abbrev main_while0b_v62 : Ref sig .tc := ⟨.hbm, 108, rfl⟩
abbrev main_while0b_v63 : Ref sig .tc := ⟨.hbm, 109, rfl⟩
abbrev main_while0b_v64 : Ref sig .tc := ⟨.hbm, 110, rfl⟩
abbrev main_while0b_v65 : Ref sig .tc := ⟨.hbm, 111, rfl⟩
abbrev main_while0b_v66 : Ref sig .tc := ⟨.hbm, 112, rfl⟩
abbrev main_while0b_v67 : Ref sig .tc := ⟨.hbm, 113, rfl⟩
abbrev main_while0b_v68 : Ref sig .tc := ⟨.hbm, 114, rfl⟩
abbrev main_while0b_cst_26 : Ref sig .tc := ⟨.hbm, 115, rfl⟩
abbrev main_while0b_v69 : Ref sig .tc := ⟨.hbm, 116, rfl⟩
abbrev main_while0b_v70 : Ref sig .tc := ⟨.hbm, 117, rfl⟩
abbrev main_while0b_cst_27 : Ref sig .tc := ⟨.hbm, 118, rfl⟩
abbrev main_while0b_v71 : Ref sig .tc := ⟨.hbm, 119, rfl⟩
abbrev main_while0b_v72 : Ref sig .tc := ⟨.hbm, 120, rfl⟩
abbrev main_while0b_v73 : Ref sig .tc := ⟨.hbm, 121, rfl⟩
abbrev main_while0b_v74 : Ref sig .tc := ⟨.hbm, 122, rfl⟩
abbrev main_while0b_v75 : Ref sig .tc := ⟨.hbm, 123, rfl⟩
abbrev main_while0b_cst_28 : Ref sig .tc := ⟨.hbm, 124, rfl⟩
abbrev main_while0b_v76 : Ref sig .tc := ⟨.hbm, 125, rfl⟩
abbrev main_while0b_v77 : Ref sig .tc := ⟨.hbm, 126, rfl⟩
abbrev main_while0b_cst_29 : Ref sig .tc := ⟨.hbm, 127, rfl⟩
abbrev main_while0b_v78 : Ref sig .tc := ⟨.hbm, 128, rfl⟩
abbrev main_while0b_v79 : Ref sig .tc := ⟨.hbm, 129, rfl⟩
abbrev main_while0b_v80 : Ref sig .tc := ⟨.hbm, 130, rfl⟩
abbrev main_while0b_v81 : Ref sig .tc := ⟨.hbm, 131, rfl⟩
abbrev main_while0b_v82 : Ref sig .tc := ⟨.hbm, 132, rfl⟩
abbrev main_while0b_v83 : Ref sig .tc := ⟨.hbm, 133, rfl⟩
abbrev main_while0b_v84 : Ref sig .tc := ⟨.hbm, 134, rfl⟩
abbrev main_while0b_cst_30 : Ref sig .tc := ⟨.hbm, 135, rfl⟩
abbrev main_while0b_v85 : Ref sig .tc := ⟨.hbm, 136, rfl⟩
abbrev main_while0b_v86 : Ref sig .tc := ⟨.hbm, 137, rfl⟩
abbrev main_while0b_cst_31 : Ref sig .tc := ⟨.hbm, 138, rfl⟩
abbrev main_while0b_v87 : Ref sig .tc := ⟨.hbm, 139, rfl⟩
abbrev main_while0b_v88 : Ref sig .tc := ⟨.hbm, 140, rfl⟩
abbrev main_while0b_v89 : Ref sig .tc := ⟨.hbm, 141, rfl⟩
abbrev main_while0b_v90 : Ref sig .tc := ⟨.hbm, 142, rfl⟩
abbrev main_while0b_v91 : Ref sig .tc := ⟨.hbm, 143, rfl⟩
abbrev main_while0b_v92 : Ref sig .tc := ⟨.hbm, 144, rfl⟩
abbrev main_while0b_v93 : Ref sig .tc := ⟨.hbm, 145, rfl⟩
abbrev main_while0b_v94 : Ref sig .tc := ⟨.hbm, 146, rfl⟩
abbrev main_while0b_v95 : Ref sig .tc := ⟨.hbm, 147, rfl⟩
abbrev main_while0b_v96 : Ref sig .tc := ⟨.hbm, 148, rfl⟩
abbrev main_while0b_cst_32 : Ref sig .tc := ⟨.hbm, 149, rfl⟩
abbrev main_while0b_v97 : Ref sig .tc := ⟨.hbm, 150, rfl⟩
abbrev main_while0b_v98 : Ref sig .tc := ⟨.hbm, 151, rfl⟩
abbrev main_while0b_v99 : Ref sig .tc := ⟨.hbm, 152, rfl⟩
abbrev main_while0b_v100 : Ref sig .tc := ⟨.hbm, 153, rfl⟩
abbrev main_while0b_v101 : Ref sig .tc := ⟨.hbm, 154, rfl⟩
abbrev main_while0b_cst_33 : Ref sig .tc := ⟨.hbm, 155, rfl⟩
abbrev main_while0b_v102 : Ref sig .tc := ⟨.hbm, 156, rfl⟩
abbrev main_while0b_v103 : Ref sig .tc := ⟨.hbm, 157, rfl⟩
abbrev main_while0b_v104 : Ref sig .tc := ⟨.hbm, 158, rfl⟩
abbrev main_while0b_v105 : Ref sig .tc := ⟨.hbm, 159, rfl⟩
abbrev main_while0b_v106 : Ref sig .tc := ⟨.hbm, 160, rfl⟩
abbrev main_while0b_cst_34 : Ref sig .tc := ⟨.hbm, 161, rfl⟩
abbrev main_while0b_v107 : Ref sig .tc := ⟨.hbm, 162, rfl⟩
abbrev main_while0b_v108 : Ref sig .tc := ⟨.hbm, 163, rfl⟩
abbrev main_while0b_call3_cst : Ref sig .tc := ⟨.hbm, 164, rfl⟩
abbrev main_while0b_call3_v0 : Ref sig .tc := ⟨.hbm, 165, rfl⟩
abbrev main_while0b_call3_v1 : Ref sig .tc := ⟨.hbm, 166, rfl⟩
abbrev main_while0b_call3_v2 : Ref sig .tc := ⟨.hbm, 167, rfl⟩
abbrev main_while0b_call3_v3 : Ref sig .tc := ⟨.hbm, 168, rfl⟩
abbrev main_while0b_v109 : Ref sig .tc := ⟨.hbm, 169, rfl⟩
abbrev main_while0b_v110 : Ref sig .tc := ⟨.hbm, 170, rfl⟩
abbrev main_while0b_c_35 : Ref sig .tc := ⟨.hbm, 171, rfl⟩
abbrev main_while0b_v111 : Ref sig .tc := ⟨.hbm, 172, rfl⟩
abbrev main_while0b_v112 : Ref sig .tc := ⟨.hbm, 173, rfl⟩
abbrev main_while0b_v113 : Ref sig .tc := ⟨.hbm, 174, rfl⟩
abbrev main_while0b_v114 : Ref sig .tc := ⟨.hbm, 175, rfl⟩
abbrev main_while0b_cst_36 : Ref sig .tc := ⟨.hbm, 176, rfl⟩
abbrev main_while0b_v115 : Ref sig .tc := ⟨.hbm, 177, rfl⟩
abbrev main_while0b_v116 : Ref sig .tc := ⟨.hbm, 178, rfl⟩
abbrev main_while0b_call4_cst : Ref sig .tc := ⟨.hbm, 179, rfl⟩
abbrev main_while0b_call4_v0 : Ref sig .tc := ⟨.hbm, 180, rfl⟩
abbrev main_while0b_call4_v1 : Ref sig .tc := ⟨.hbm, 181, rfl⟩
abbrev main_while0b_call4_v2 : Ref sig .tc := ⟨.hbm, 182, rfl⟩
abbrev main_while0b_call4_v3 : Ref sig .tc := ⟨.hbm, 183, rfl⟩
abbrev main_while0b_v117 : Ref sig .tc := ⟨.hbm, 184, rfl⟩
abbrev main_while0b_v118 : Ref sig .tc := ⟨.hbm, 185, rfl⟩
abbrev main_while0b_c_37 : Ref sig .tc := ⟨.hbm, 186, rfl⟩
abbrev main_while0b_v119 : Ref sig .tc := ⟨.hbm, 187, rfl⟩
abbrev main_while0b_v120 : Ref sig .tc := ⟨.hbm, 188, rfl⟩
abbrev main_while0b_c_38 : Ref sig .tc := ⟨.hbm, 189, rfl⟩
abbrev main_while0b_v121 : Ref sig .tc := ⟨.hbm, 190, rfl⟩
abbrev main_while0b_v122 : Ref sig .tc := ⟨.hbm, 191, rfl⟩
abbrev main_while0b_v123 : Ref sig .tc := ⟨.hbm, 192, rfl⟩
abbrev main_while0b_c_39 : Ref sig .tc := ⟨.hbm, 193, rfl⟩
abbrev main_while0b_v124 : Ref sig .tc := ⟨.hbm, 194, rfl⟩
abbrev main_while0b_v125 : Ref sig .tc := ⟨.hbm, 195, rfl⟩
abbrev main_while0b_v126 : Ref sig .tc := ⟨.hbm, 196, rfl⟩
abbrev main_while0b_c_40 : Ref sig .tc := ⟨.hbm, 197, rfl⟩
abbrev main_while0b_v127 : Ref sig .tc := ⟨.hbm, 198, rfl⟩
abbrev main_while0b_v128 : Ref sig .tc := ⟨.hbm, 199, rfl⟩
abbrev main_while0b_v129 : Ref sig .tc := ⟨.hbm, 200, rfl⟩
abbrev main_while0b_c_41 : Ref sig .tc := ⟨.hbm, 201, rfl⟩
abbrev main_while0b_v130 : Ref sig .tc := ⟨.hbm, 202, rfl⟩
abbrev main_while0b_v131 : Ref sig .tc := ⟨.hbm, 203, rfl⟩
abbrev main_while0b_v132 : Ref sig .tc := ⟨.hbm, 204, rfl⟩
abbrev main_while0b_c_42 : Ref sig .tc := ⟨.hbm, 205, rfl⟩
abbrev main_while0b_v133 : Ref sig .tc := ⟨.hbm, 206, rfl⟩
abbrev main_while0b_v134 : Ref sig .tc := ⟨.hbm, 207, rfl⟩
abbrev main_while0b_v135 : Ref sig .tc := ⟨.hbm, 208, rfl⟩
abbrev main_while0b_c_43 : Ref sig .tc := ⟨.hbm, 209, rfl⟩
abbrev main_while0b_v136 : Ref sig .tc := ⟨.hbm, 210, rfl⟩
abbrev main_while0b_v137 : Ref sig .tc := ⟨.hbm, 211, rfl⟩
abbrev main_while0b_v138 : Ref sig .tc := ⟨.hbm, 212, rfl⟩
abbrev main_while0b_c_44 : Ref sig .tc := ⟨.hbm, 213, rfl⟩
abbrev main_while0b_call5_v0 : Ref sig .tc := ⟨.hbm, 214, rfl⟩
abbrev main_while0b_call5_v1 : Ref sig .tc := ⟨.hbm, 215, rfl⟩
abbrev main_while0b_v139 : Ref sig .tc := ⟨.hbm, 216, rfl⟩
abbrev main_while0b_v140 : Ref sig .tc := ⟨.hbm, 217, rfl⟩
abbrev main_while0b_cst_45 : Ref sig .tc := ⟨.hbm, 218, rfl⟩
abbrev main_while0b_call6_v0 : Ref sig .tc := ⟨.hbm, 219, rfl⟩
abbrev main_while0b_call6_v1 : Ref sig .tc := ⟨.hbm, 220, rfl⟩
abbrev main_while0b_call6_v2 : Ref sig .tc := ⟨.hbm, 221, rfl⟩
abbrev main_while0b_v141 : Ref sig .tc := ⟨.hbm, 222, rfl⟩
abbrev main_while0b_cst_46 : Ref sig .tc := ⟨.hbm, 223, rfl⟩
abbrev main_while0b_v142 : Ref sig .tc := ⟨.hbm, 224, rfl⟩
abbrev main_while0b_v143 : Ref sig .tc := ⟨.hbm, 225, rfl⟩
abbrev main_while0b_v144 : Ref sig .tc := ⟨.hbm, 226, rfl⟩
abbrev main_while0b_v145 : Ref sig .tc := ⟨.hbm, 227, rfl⟩
abbrev main_while0b_v146 : Ref sig .tc := ⟨.hbm, 228, rfl⟩
abbrev main_while0b_v147 : Ref sig .tc := ⟨.hbm, 229, rfl⟩
abbrev main_while0b_v148 : Ref sig .tc := ⟨.hbm, 230, rfl⟩
abbrev main_while0b_v149 : Ref sig .tc := ⟨.hbm, 231, rfl⟩
abbrev main_while0b_call7_cst : Ref sig .tc := ⟨.hbm, 232, rfl⟩
abbrev main_while0b_call7_v0 : Ref sig .tc := ⟨.hbm, 233, rfl⟩
abbrev main_while0b_v150 : Ref sig .tc := ⟨.hbm, 234, rfl⟩
abbrev main_while0b_v151 : Ref sig .tc := ⟨.hbm, 235, rfl⟩
abbrev main_while0b_v152 : Ref sig .tc := ⟨.hbm, 236, rfl⟩
abbrev main_while0b_v153 : Ref sig .tc := ⟨.hbm, 237, rfl⟩
abbrev main_while0b_v154 : Ref sig .tc := ⟨.hbm, 238, rfl⟩
abbrev main_while0b_v155 : Ref sig .tc := ⟨.hbm, 239, rfl⟩
abbrev main_while0b_c_47 : Ref sig .tc := ⟨.hbm, 240, rfl⟩
abbrev main_while0b_v156 : Ref sig .tc := ⟨.hbm, 241, rfl⟩
abbrev main_v7 : Ref sig .tc := ⟨.hbm, 242, rfl⟩
abbrev main_v8 : Ref sig .tc := ⟨.hbm, 243, rfl⟩
abbrev main_v9 : Ref sig .tc := ⟨.hbm, 244, rfl⟩
abbrev main_v10 : Ref sig .tc := ⟨.hbm, 245, rfl⟩

abbrev nD : Nat := 1
abbrev τ : Topo := Topo.v7x

variable {F : FTy → Type} [FloatOps F]

abbrev main_while0_count : Scf.Loop 32 := ⟨0#32, 15#32, 1#32⟩
-- ==== Proof.Mem.lean ====
/-
  Reading and writing a window of a buffer, at the level of "this core owns this buffer and it
  reads `X`": a load gives the window of `X`, a store leaves `X` with the payload put in the window.
-/
module

public import Idealize.ShloMosaic.Lib.Pipeline.FrameBody
public import Idealize.ShloMosaic.Lib.VecWindow
public import Idealize.ShloMosaic.Lib.Tactic

@[expose] public section

noncomputable section

namespace Cert.Mem

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

section
variable {nD : Nat} {τ : Topo} {sig : RefSig} {Ix : Type} [DecidableEq Ix]
variable {Val : EltTy → Type} {Name : Type} [DecidableEq Name]
variable {U : Type} [URA U]
variable {Lvl : Type} {Λ : Labels} [Preorder Lvl] {defs : Defs nD τ sig Val Λ} {𝒱 : Variants} {c : Thread nD τ}
  {bd : Option 𝒱.V} {Γ : PendingWaitsCtx sig Ix} {E : Set Name}
variable {α : Type} {Q : α → sProp (MT nD τ sig Ix Val Name U Lvl)}

/-- A load of a window of an owned buffer continues at the window of its contents. -/
theorem load_owns {cs : CoreSpace} {s : Shape} {e : EltTy} {m : Memref sig c.2.kind cs s e} {q : PosShare TreeShare}
    {X : s.Idx → Val e} {off size : Fin s.rank → ℕ} {inb : ∀ a, off a + size a ≤ s.size a}
    {hl : m.view.LoadsAt (Rect.unit off size inb).toLoadRect}
    {k : ((Rect.unit off size inb).toLoadRect.shape.Idx → Val e) → Prog (TpuEff nD τ sig Val Λ c.2) α} :
    iprop(owns c m q X ∗ (owns c m q X -∗ wp frame (wpE' defs 𝒱 c bd Γ) E (k (VecWindow.window X off size inb)) Q))
      ⊢ wp frame (wpE' defs 𝒱 c bd Γ) E (.op (.load m (Rect.unit off size inb).toLoadRect hl) k) Q := by
  unfold owns
  iintro ⟨⟨%f, %hf, H⟩, Hk⟩
  iapply (wp_load 𝒱 c bd E (S := m.view.set) (View.setOn_subset_set _ _)) $$ [H]
  · iexact H
  iintro H
  rw [View.readAt_unit m.view f inb rfl inb, hf]
  iapply Hk
  iexists f
  isplitr
  · ipureintro; exact hf
  iexact H

/-- A store over a window of an owned buffer leaves its contents with the payload put there. -/
theorem store_owns {cs : CoreSpace} {s : Shape} {e : EltTy} {m : Memref sig c.2.kind cs s e}
    {X : s.Idx → Val e} {off size : Fin s.rank → ℕ} {inb : ∀ a, off a + size a ≤ s.size a}
    {w : (Rect.unit off size inb).shape.Idx → Val e}
    {hx : (m.access (Rect.unit off size inb)).Stores Finset.univ} {hm}
    {k : PUnit → Prog (TpuEff nD τ sig Val Λ c.2) α} :
    iprop(owns c m fullShare X ∗ (owns c m fullShare (VecWindow.put X off size w) -∗ wp frame (wpE' defs 𝒱 c bd Γ) E (k ⟨⟩) Q))
      ⊢ wp frame (wpE' defs 𝒱 c bd Γ) E (.op (.store m (Rect.unit off size inb) w Finset.univ hx hm) k) Q := by
  unfold owns
  iintro ⟨⟨%f, %hf, H⟩, Hk⟩
  iapply (wp_store 𝒱 c bd E (S := m.view.set) (by rw [View.setOn_univ, View.set_slice]; exact View.setOn_subset_set _ _)) $$ [H]
  · iexact H
  iintro H
  iapply Hk
  iexists _
  isplitr
  swap
  · iexact H
  ipureintro
  exact (View.read_writes_cons_put m.view f inb w [] rfl).trans (by rw [View.writes_nil, hf])

end

end Cert.Mem
-- ==== Proof.KernelIdeal.Neighbors.lean ====
/-
  The neighbours' kernel, told again by its structure: a grid point takes 1024 neighbours as two
  halves of 512; it clears its scratch, runs fifteen steps of the recurrence on each half, and sums
  the last hidden states into sixteen cells. Each piece is a program with what follows it as an
  argument (`K`), and next to it the pure values it computes. `neighbors_eq` says the printed
  kernel is this program.
-/
module

public import proofs.«01_k».proof.Proof.Gen.KernelIdeal.Skeleton
public import proofs.«01_k».proof.Proof.Mem
public import Idealize.ShloMosaic.Lib.Pipeline.Regions

@[expose] public section

noncomputable section

namespace Cert.KernelIdeal.Hand

open Idealize.ShloMosaic Idealize.SL.Sem
open Cert.KernelIdeal
open Facts₀ Facts

variable {F : FTy → Type} [FloatOps F]

/-! ## Bounds of the accesses, for either half and any step -/

theorem inX (t : Fin 15) : ∀ a, (![(t : ℕ), 0, 0] : Fin 3 → ℕ) a + S1x2x1024.size a ≤ S15x2x1024.size a := by
  have := t.isLt
  intro a; fin_cases a <;> simp [S1x2x1024, S15x2x1024] <;> omega

theorem inRow2 (u : Fin 2) : ∀ a, (![(u : ℕ), 2, 0] : Fin 3 → ℕ) a + S1x2x512.size a ≤ S2x128x512.size a :=
  match u with | 0 => inb_S2x128x512_S1x2x512_0_2_0 | 1 => inb_S2x128x512_S1x2x512_1_2_0

theorem inOne (u : Fin 2) : ∀ a, (![(u : ℕ), 2, 0] : Fin 3 → ℕ) a + S1x1x512.size a ≤ S2x128x512.size a :=
  match u with | 0 => inb_S2x128x512_S1x1x512_0_2_0 | 1 => inb_S2x128x512_S1x1x512_1_2_0

theorem inIn (u : Fin 2) : ∀ a, (![(u : ℕ), 0, 0] : Fin 3 → ℕ) a + S1x2x512.size a ≤ S2x128x512.size a :=
  match u with | 0 => inb_S2x128x512_S1x2x512_0_0_0 | 1 => inb_S2x128x512_S1x2x512_1_0_0

theorem inAll (u : Fin 2) : ∀ a, (![(u : ℕ), 0, 0] : Fin 3 → ℕ) a + S1x128x512.size a ≤ S2x128x512.size a :=
  match u with | 0 => inb_S2x128x512_S1x128x512_0_0_0 | 1 => inb_S2x128x512_S1x128x512_1_0_0

theorem inH (u : Fin 2) : ∀ a, (![(u : ℕ), 64, 0] : Fin 3 → ℕ) a + S1x64x512.size a ≤ S2x128x512.size a :=
  match u with | 0 => inb_S2x128x512_S1x64x512_0_64_0 | 1 => inb_S2x128x512_S1x64x512_1_64_0

theorem inC (u : Fin 2) : ∀ a, (![(u : ℕ), 0, 0] : Fin 3 → ℕ) a + S1x64x512.size a ≤ S2x64x512.size a :=
  match u with | 0 => inb_S2x64x512_S1x64x512_0_0_0 | 1 => inb_S2x64x512_S1x64x512_1_0_0

theorem inMask (u : Fin 2) : ∀ a, (![0, 512 * (u : ℕ)] : Fin 2 → ℕ) a + S1x512.size a ≤ S1x1024.size a :=
  match u with | 0 => inb_S1x1024_S1x512_0_0 | 1 => inb_S1x1024_S1x512_0_512

theorem slX (u : Fin 2) : S2x1024.Slices ![0, 512 * (u : ℕ)] S2x512 :=
  match u with | 0 => slices_S2x1024_o0_0_S2x512 | 1 => slices_S2x1024_o0_512_S2x512

theorem slRow0 (u : Fin 2) : S2x1024.Slices ![0, 512 * (u : ℕ)] S1x512 :=
  match u with | 0 => slices_S2x1024_o0_0_S1x512 | 1 => slices_S2x1024_o0_512_S1x512

theorem slRow1 (u : Fin 2) : S2x1024.Slices ![1, 512 * (u : ℕ)] S1x512 :=
  match u with | 0 => slices_S2x1024_o1_0_S1x512 | 1 => slices_S2x1024_o1_512_S1x512

theorem pkRow2 (u : Fin 2) : (Rect.unit (s := S2x128x512) ![(u : ℕ), 2, 0] S1x2x512.size (inRow2 u)).PackedRows (EltTy.packing .bf16) :=
  match u with | 0 => packedbf16_S2x128x512_S1x2x512_0_2_0 | 1 => packedbf16_S2x128x512_S1x2x512_1_2_0

theorem pkIn (u : Fin 2) : (Rect.unit (s := S2x128x512) ![(u : ℕ), 0, 0] S1x2x512.size (inIn u)).PackedRows (EltTy.packing .bf16) :=
  match u with | 0 => packedbf16_S2x128x512_S1x2x512_0_0_0 | 1 => packedbf16_S2x128x512_S1x2x512_1_0_0

theorem pkH (u : Fin 2) : (Rect.unit (s := S2x128x512) ![(u : ℕ), 64, 0] S1x64x512.size (inH u)).PackedRows (EltTy.packing .bf16) :=
  match u with | 0 => packedbf16_S2x128x512_S1x64x512_0_64_0 | 1 => packedbf16_S2x128x512_S1x64x512_1_64_0

/-! ## The pure values -/

/-- The logistic function as the kernel writes it, its argument already halved. -/
def halfTanh (x : FVec F S64x512 .f32) : FVec F S64x512 .f32 :=
  addf (mulf (tanh x) (broadcast S64x512 (Scalar.ofBits .f32 0x3F000000#32))) (broadcast S64x512 (Scalar.ofBits .f32 0x3F000000#32))

/-- The next cell state, from the product `G` of the stacked weights and the old cell state. -/
def newC (G : FVec F S256x512 .f32) (c : Vec F S1x64x512 .f32) : FVec F S64x512 .f32 :=
  addf (mulf (halfTanh (extractStridedSlice S64x512 ![64, 0] G slices_S256x512_o64_0_S64x512)) (shapeCast S64x512 c shapeCasts_S1x64x512_S64x512))
    (mulf (halfTanh (extractStridedSlice S64x512 ![0, 0] G slices_S256x512_o0_0_S64x512)) (tanh (extractStridedSlice S64x512 ![128, 0] G slices_S256x512_o128_0_S64x512)))

/-- The next hidden state. -/
def newH (G : FVec F S256x512 .f32) (c : Vec F S1x64x512 .f32) : FVec F S64x512 .f32 :=
  mulf (halfTanh (extractStridedSlice S64x512 ![192, 0] G slices_S256x512_o192_0_S64x512)) (tanh (newC G c))

/-- The half `u` of a step's positions. -/
def posHalf (u : Fin 2) (v : Vec F S1x2x1024 .f32) : FVec F S2x512 .f32 :=
  extractStridedSlice S2x512 ![0, 512 * (u : ℕ)] (shapeCast S2x1024 v shapeCasts_S1x2x1024_S2x1024) (slX u)

/-- The product at the shorter float format. -/
def prodB (w : Vec F S256x128 .bf16) (h : Vec F S1x128x512 .bf16) : FVec F S256x512 .f32 :=
  matmul dot_S256x128_S128x512_S256x512_1_0_0_1_n_n none (shapeCast S256x128 w shapeCasts_S256x128_S256x128 : FVec F S256x128 .bf16)
    (shapeCast S128x512 h shapeCasts_S1x128x512_S128x512 : FVec F S128x512 .bf16) (constant S256x512 .f32 0x00000000#32)

/-- The product at the longer float format. -/
def prodF (w : Vec F S256x128 .f32) (h : Vec F S1x128x512 .f32) : FVec F S256x512 .f32 :=
  matmul dot_S256x128_S128x512_S256x512_1_0_0_1_n_n none (shapeCast S256x128 w shapeCasts_S256x128_S256x128 : FVec F S256x128 .f32)
    (shapeCast S128x512 h shapeCasts_S1x128x512_S128x512 : FVec F S128x512 .f32) (constant S256x512 .f32 0x00000000#32)

/-- A coordinate's distance to the target along one axis, in cells, counted from two cells before it. -/
def cellOf (r : FVec F S1x512 .f32) : IVec S1x512 32 :=
  addi (fptosi 32 (select (cmpf .olt (mulf r (broadcast S1x512 (Scalar.ofBits .f32 0x3F800000#32))) (broadcast S1x512 (Scalar.ofBits .f32 0x00000000#32)))
      (ceil (mulf r (broadcast S1x512 (Scalar.ofBits .f32 0x3F800000#32)))) (floor (mulf r (broadcast S1x512 (Scalar.ofBits .f32 0x3F800000#32))))))
    (broadcast S1x512 2#32)

/-- Whether a neighbour counts: near enough, its cell one of the sixteen, its mask on. -/
def counts (rx ry : FVec F S1x512 .f32) (mk : IVec S1x512 32) : IVec S1x512 1 :=
  andi (andi (andi (andi (andi (andi (cmpf .ole (absf rx) (broadcast S1x512 (Scalar.ofBits .f32 0x40000000#32)))
      (cmpf .ole (absf ry) (broadcast S1x512 (Scalar.ofBits .f32 0x40000000#32))))
      (cmpi .sge (cellOf rx) (broadcast S1x512 0#32))) (cmpi .slt (cellOf rx) (broadcast S1x512 4#32)))
      (cmpi .sge (cellOf ry) (broadcast S1x512 0#32))) (cmpi .slt (cellOf ry) (broadcast S1x512 4#32)))
    (cmpi .ne mk (broadcast S1x512 0#32))

/-- One where the neighbour counts towards the cell, zero elsewhere. -/
def member (rx ry : FVec F S1x512 .f32) (mk : IVec S1x512 32) : FVec F S16x512 .f32 :=
  select (andi (cmpi .eq (broadcastTo S16x512 (addi (muli (cellOf ry) (broadcast S1x512 4#32)) (cellOf rx)) broadcasts_S1x512_S16x512)
        (iota .tc S16x512 32 [0] iota_S16x512_d0_w32)) (broadcastTo S16x512 (counts rx ry mk) broadcasts_S1x512_S16x512))
    (broadcast S16x512 (Scalar.ofBits .f32 0x3F800000#32)) (broadcast S16x512 (Scalar.ofBits .f32 0x00000000#32))

/-- The sum of a half's hidden states by cell. -/
def cellSum (u : Fin 2) (v : Vec F S1x2x1024 .f32) (h : Vec F S1x64x512 .f32) (tx ty : Vec F S1x1 .f32) (mk : Vec F S1x512 .i32) : FVec F S16x64 .f32 :=
  matmul dot_S16x512_S64x512_S16x64_1_1_0_0_n_n none
    (member (subf (extractStridedSlice S1x512 ![0, 512 * (u : ℕ)] (shapeCast S2x1024 v shapeCasts_S1x2x1024_S2x1024 : FVec F S2x1024 .f32) (slRow0 u))
        (broadcast S1x512 (extractAt ![0, 0] tx inpos_S1x1_p0_0)))
      (subf (extractStridedSlice S1x512 ![1, 512 * (u : ℕ)] (shapeCast S2x1024 v shapeCasts_S1x2x1024_S2x1024 : FVec F S2x1024 .f32) (slRow1 u))
        (broadcast S1x512 (extractAt ![0, 0] ty inpos_S1x1_p0_0)))
      (shapeCast S1x512 mk shapeCasts_S1x512_S1x512))
    (shapeCast S64x512 h shapeCasts_S1x64x512_S64x512 : FVec F S64x512 .f32) (constant S16x64 .f32 0x00000000#32)

/-! ## The program -/

/-- The buffers the kernel works on. -/
structure Mems where
  arg1 : Memref sig .tc .vmem S15x2x1024 .f32
  arg2 : Memref sig .tc .vmem S1x1024 .i32
  arg3 : Memref sig .tc .vmem S1x2 .f32
  arg4 : Memref sig .tc .vmem S256x128 .bf16
  arg5 : Memref sig .tc .vmem S256x128 .f32
  arg6 : Memref sig .tc .vmem S1x16x64 .f32
  arg7 : Memref sig .tc .vmem S2x128x512 .bf16
  arg8 : Memref sig .tc .vmem S2x128x512 .f32
  arg9 : Memref sig .tc .vmem S2x64x512 .f32
  harg7 : arg7.IsWhole

/-- A program of the kernel's. -/
abbrev P (F : FTy → Type) := Prog (TpuEff nD τ sig (Elt F) Λ₀ .tc) PUnit

variable (M : Mems)

/-- Clear both state buffers. -/
def clear (K : P F) : P F :=
  .op (.load M.arg7 (Rect.unit (s := S2x128x512) ![0, 0, 0] S2x128x512.size inb_S2x128x512_S2x128x512_0_0_0).toLoadRect (View.loadsAt_vmem h_S2x128x512)) fun _ =>
  .op (.store M.arg7 (Rect.unit (s := S2x128x512) ![0, 0, 0] S2x128x512.size inb_S2x128x512_S2x128x512_0_0_0)
    (shapeCast S2x128x512 (broadcast S2x128x512 (Scalar.ofBits .bf16 0x0000#16) : FVec F S2x128x512 .bf16) shapeCasts_S2x128x512_S2x128x512) Finset.univ
    (View.stores_vmem h_S2x128x512 (M.harg7.storeExact_slice rfl _ packedbf16_S2x128x512_S2x128x512_0_0_0) (fun _ => rfl)) (.inl rfl)) fun _ =>
  .op (.load M.arg8 (Rect.unit (s := S2x128x512) ![0, 0, 0] S2x128x512.size inb_S2x128x512_S2x128x512_0_0_0).toLoadRect (View.loadsAt_vmem h_S2x128x512)) fun _ =>
  .op (.store M.arg8 (Rect.unit (s := S2x128x512) ![0, 0, 0] S2x128x512.size inb_S2x128x512_S2x128x512_0_0_0)
    (shapeCast S2x128x512 (broadcast S2x128x512 (Scalar.ofBits .f32 0x00000000#32) : FVec F S2x128x512 .f32) shapeCasts_S2x128x512_S2x128x512) Finset.univ
    (View.stores_vmem_bits_univ h_S2x128x512 rfl) (.inl rfl)) fun _ => K

/-- Write the row of ones the bias column meets, and clear the cell state, of half `u`. -/
def setup (u : Fin 2) (K : P F) : P F :=
  .op (.load M.arg7 (Rect.unit (s := S2x128x512) ![(u : ℕ), 2, 0] S1x1x512.size (inOne u)).toLoadRect (View.loadsAt_vmem h_S1x1x512)) fun _ =>
  .op (.load M.arg7 (Rect.unit (s := S2x128x512) ![(u : ℕ), 2, 0] S1x2x512.size (inRow2 u)).toLoadRect (View.loadsAt_vmem h_S1x2x512)) fun old =>
  .op (.store M.arg7 (Rect.unit (s := S2x128x512) ![(u : ℕ), 2, 0] S1x2x512.size (inRow2 u))
    (updateSlice old (shapeCast S1x1x512 (broadcast S1x512 (Scalar.ofBits .bf16 0x3F80#16) : FVec F S1x512 .bf16) shapeCasts_S1x512_S1x1x512) ![0, 0, 0] slices_S1x2x512_S1x1x512_0_0_0) Finset.univ
    (View.stores_vmem h_S1x2x512 (M.harg7.storeExact_slice rfl _ (pkRow2 u)) (fun _ => rfl)) (.inl rfl)) fun _ =>
  .op (.load M.arg8 (Rect.unit (s := S2x128x512) ![(u : ℕ), 2, 0] S1x1x512.size (inOne u)).toLoadRect (View.loadsAt_vmem h_S1x1x512)) fun _ =>
  .op (.store M.arg8 (Rect.unit (s := S2x128x512) ![(u : ℕ), 2, 0] S1x1x512.size (inOne u))
    (shapeCast S1x1x512 (broadcast S1x512 (Scalar.ofBits .f32 0x3F800000#32) : FVec F S1x512 .f32) shapeCasts_S1x512_S1x1x512) Finset.univ
    (View.stores_vmem_bits_univ h_S1x1x512 rfl) (.inl rfl)) fun _ =>
  .op (.load M.arg9 (Rect.unit (s := S2x64x512) ![(u : ℕ), 0, 0] S1x64x512.size (inC u)).toLoadRect (View.loadsAt_vmem h_S1x64x512)) fun _ =>
  .op (.store M.arg9 (Rect.unit (s := S2x64x512) ![(u : ℕ), 0, 0] S1x64x512.size (inC u))
    (shapeCast S1x64x512 (broadcast S64x512 (Scalar.ofBits .f32 0x00000000#32) : FVec F S64x512 .f32) shapeCasts_S64x512_S1x64x512) Finset.univ
    (View.stores_vmem_bits_univ h_S1x64x512 rfl) (.inl rfl)) fun _ => K

/-- Put the positions into the state at the shorter format and multiply by the weights. -/
def headB (t : Fin 15) (u : Fin 2) (K : FVec F S256x512 .f32 → P F) : P F :=
  .op (.load M.arg1 (Rect.unit (s := S15x2x1024) ![(t : ℕ), 0, 0] S1x2x1024.size (inX t)).toLoadRect (View.loadsAt_vmem h_S1x2x1024)) fun v =>
  .op (.load M.arg7 (Rect.unit (s := S2x128x512) ![(u : ℕ), 0, 0] S1x2x512.size (inIn u)).toLoadRect (View.loadsAt_vmem h_S1x2x512)) fun _ =>
  .op (.store M.arg7 (Rect.unit (s := S2x128x512) ![(u : ℕ), 0, 0] S1x2x512.size (inIn u))
    (shapeCast S1x2x512 (truncf .bf16 (posHalf u v) bitsLt_bf16_f32) shapeCasts_S2x512_S1x2x512) Finset.univ
    (View.stores_vmem h_S1x2x512 (M.harg7.storeExact_slice rfl _ (pkIn u)) (fun _ => rfl)) (.inl rfl)) fun _ =>
  .op (.load M.arg4 (Rect.unit (s := S256x128) ![0, 0] S256x128.size inb_S256x128_S256x128_0_0).toLoadRect (View.loadsAt_vmem h_S256x128)) fun w =>
  .op (.load M.arg7 (Rect.unit (s := S2x128x512) ![(u : ℕ), 0, 0] S1x128x512.size (inAll u)).toLoadRect (View.loadsAt_vmem h_S1x128x512)) fun h =>
  K (prodB w h)

/-- The same at the longer format. -/
def headF (t : Fin 15) (u : Fin 2) (K : FVec F S256x512 .f32 → P F) : P F :=
  .op (.load M.arg1 (Rect.unit (s := S15x2x1024) ![(t : ℕ), 0, 0] S1x2x1024.size (inX t)).toLoadRect (View.loadsAt_vmem h_S1x2x1024)) fun v =>
  .op (.load M.arg8 (Rect.unit (s := S2x128x512) ![(u : ℕ), 0, 0] S1x2x512.size (inIn u)).toLoadRect (View.loadsAt_vmem h_S1x2x512)) fun _ =>
  .op (.store M.arg8 (Rect.unit (s := S2x128x512) ![(u : ℕ), 0, 0] S1x2x512.size (inIn u))
    (shapeCast S1x2x512 (posHalf u v) shapeCasts_S2x512_S1x2x512) Finset.univ
    (View.stores_vmem_bits_univ h_S1x2x512 rfl) (.inl rfl)) fun _ =>
  .op (.load M.arg5 (Rect.unit (s := S256x128) ![0, 0] S256x128.size inb_S256x128_S256x128_0_0).toLoadRect (View.loadsAt_vmem h_S256x128)) fun w =>
  .op (.load M.arg8 (Rect.unit (s := S2x128x512) ![(u : ℕ), 0, 0] S1x128x512.size (inAll u)).toLoadRect (View.loadsAt_vmem h_S1x128x512)) fun h =>
  K (prodF w h)

/-- Update the cell state. -/
def cellStep (u : Fin 2) (G : FVec F S256x512 .f32) (K : Vec F S1x64x512 .f32 → P F) : P F :=
  .op (.load M.arg9 (Rect.unit (s := S2x64x512) ![(u : ℕ), 0, 0] S1x64x512.size (inC u)).toLoadRect (View.loadsAt_vmem h_S1x64x512)) fun c =>
  .op (.load M.arg9 (Rect.unit (s := S2x64x512) ![(u : ℕ), 0, 0] S1x64x512.size (inC u)).toLoadRect (View.loadsAt_vmem h_S1x64x512)) fun _ =>
  .op (.store M.arg9 (Rect.unit (s := S2x64x512) ![(u : ℕ), 0, 0] S1x64x512.size (inC u))
    (shapeCast S1x64x512 (newC G c) shapeCasts_S64x512_S1x64x512) Finset.univ
    (View.stores_vmem_bits_univ h_S1x64x512 rfl) (.inl rfl)) fun _ => K c

/-- Update cell and hidden state, the hidden state kept at the shorter format. -/
def tailB (u : Fin 2) (K : P F) (G : FVec F S256x512 .f32) : P F :=
  cellStep M u G fun c =>
  .op (.load M.arg7 (Rect.unit (s := S2x128x512) ![(u : ℕ), 64, 0] S1x64x512.size (inH u)).toLoadRect (View.loadsAt_vmem h_S1x64x512)) fun _ =>
  .op (.store M.arg7 (Rect.unit (s := S2x128x512) ![(u : ℕ), 64, 0] S1x64x512.size (inH u))
    (shapeCast S1x64x512 (truncf .bf16 (newH G c) bitsLt_bf16_f32) shapeCasts_S64x512_S1x64x512) Finset.univ
    (View.stores_vmem h_S1x64x512 (M.harg7.storeExact_slice rfl _ (pkH u)) (fun _ => rfl)) (.inl rfl)) fun _ => K

/-- The same, the hidden state kept at the longer format. -/
def tailF (u : Fin 2) (K : P F) (G : FVec F S256x512 .f32) : P F :=
  cellStep M u G fun c =>
  .op (.load M.arg8 (Rect.unit (s := S2x128x512) ![(u : ℕ), 64, 0] S1x64x512.size (inH u)).toLoadRect (View.loadsAt_vmem h_S1x64x512)) fun _ =>
  .op (.store M.arg8 (Rect.unit (s := S2x128x512) ![(u : ℕ), 64, 0] S1x64x512.size (inH u))
    (shapeCast S1x64x512 (newH G c) shapeCasts_S64x512_S1x64x512) Finset.univ
    (View.stores_vmem_bits_univ h_S1x64x512 rfl) (.inl rfl)) fun _ => K

/-- The steps `ts`, wholly at the shorter format. -/
def runB (K : P F) : List (Fin 15) → P F
  | [] => K
  | t :: ts => headB M t 0 (tailB M 0 (headB M t 1 (tailB M 1 (runB K ts))))

/-- The steps `ts`, wholly at the longer format. -/
def runF (K : P F) : List (Fin 15) → P F
  | [] => K
  | t :: ts => headF M t 0 (tailF M 0 (headF M t 1 (tailF M 1 (runF K ts))))

/-- The step that passes from the shorter to the longer format. -/
def pass (t : Fin 15) (K : P F) : P F := headB M t 0 (tailF M 0 (headB M t 1 (tailF M 1 K)))

/-- Read what half `u`'s sum by cell needs. -/
def bin (u : Fin 2) (v : Vec F S1x2x1024 .f32) (K : FVec F S16x64 .f32 → P F) : P F :=
  .op (.load M.arg8 (Rect.unit (s := S2x128x512) ![(u : ℕ), 64, 0] S1x64x512.size (inH u)).toLoadRect (View.loadsAt_vmem h_S1x64x512)) fun h =>
  .op (.load M.arg3 (Rect.unit (s := S1x2) ![0, 0] S1x1.size inb_S1x2_S1x1_0_0).toLoadRect (View.loadsAt_vmem h_S1x1)) fun tx =>
  .op (.load M.arg3 (Rect.unit (s := S1x2) ![0, 1] S1x1.size inb_S1x2_S1x1_0_1).toLoadRect (View.loadsAt_vmem h_S1x1)) fun ty =>
  .op (.load M.arg2 (Rect.unit (s := S1x1024) ![0, 512 * (u : ℕ)] S1x512.size (inMask u)).toLoadRect (View.loadsAt_vmem h_S1x512)) fun mk =>
  K (cellSum u v h tx ty mk)

/-- The sum by cell over both halves, written out. -/
def finish : P F :=
  .op (.load M.arg1 (Rect.unit (s := S15x2x1024) ![14, 0, 0] S1x2x1024.size (inX 14)).toLoadRect (View.loadsAt_vmem h_S1x2x1024)) fun v =>
  bin M 0 v fun s0 => bin M 1 v fun s1 =>
  .op (.load M.arg6 (Rect.unit (s := S1x16x64) ![0, 0, 0] S1x16x64.size inb_S1x16x64_S1x16x64_0_0_0).toLoadRect (View.loadsAt_vmem h_S1x16x64)) fun _ =>
  .op (.store M.arg6 (Rect.unit (s := S1x16x64) ![0, 0, 0] S1x16x64.size inb_S1x16x64_S1x16x64_0_0_0)
    (shapeCast S1x16x64 (addf (addf (broadcast S16x64 (Scalar.ofBits .f32 0x00000000#32)) s0) s1) shapeCasts_S16x64_S1x16x64) Finset.univ
    (View.stores_vmem_bits_univ h_S1x16x64 rfl) (.inl rfl)) fun _ => .ret ⟨⟩

/-- The steps at the shorter format, and those at the longer one. -/
def early : List (Fin 15) := [0, 1, 2, 3, 4, 5, 6, 7, 8]
def late : List (Fin 15) := [10, 11, 12, 13, 14]

/-- The whole kernel. -/
def body : P F := clear M (setup M 0 (setup M 1 (runB M (pass M 9 (runF M (finish M) late)) early)))

/-- The printed kernel is this program. -/
theorem neighbors_eq (i : grid0.Coords) (harg1 : M.arg1.IsWhole) (harg2 : M.arg2.IsWhole) (harg3 : M.arg3.IsWhole) (harg4 : M.arg4.IsWhole)
    (harg5 : M.arg5.IsWhole) (harg6 : M.arg6.IsWhole) (harg8 : M.arg8.IsWhole) (harg9 : M.arg9.IsWhole) :
    cc0_social_lstm_neighbors (F := F) i M.arg1 harg1 M.arg2 harg2 M.arg3 harg3 M.arg4 harg4 M.arg5 harg5 M.arg6 harg6 M.arg7 M.harg7 M.arg8 harg8 M.arg9 harg9
      = body M := by
  chain_rfl

end Cert.KernelIdeal.Hand
-- ==== Proof.KernelIdeal.NeighborsRun.lean ====
/-
  What the neighbours' kernel does at one grid point: it terminates, leaves its inputs as they are
  and its output at `outOf`, a pure function of the inputs. Proved once for any step and either half.
-/
module

public import proofs.«01_k».proof.Proof.KernelIdeal.Neighbors
public import proofs.«01_k».proof.Proof.Gen.KernelIdeal.Launch
public import Idealize.ShloMosaic.Lib.Pipeline.RegionsLoop
public import Idealize.ShloMosaic.Lib.Pipeline.FrameSuffix

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.Mem
open Facts₀ Facts

variable {F : FTy → Type} [FloatOps F]

local notation "𝕄" => MT nD τ sig Unit (Elt F) ℕ (UR sig nD τ) ℕ

/-! ## The pure values -/

/-- A grid point's inputs: positions, mask, target, and the weights at both formats. -/
structure Ins (F : FTy → Type) where
  x : Vec F S15x2x1024 .f32
  mask : Vec F S1x1024 .i32
  tg : Vec F S1x2 .f32
  wb : Vec F S256x128 .bf16
  wf : Vec F S256x128 .f32

/-- The scratch: the state at both formats and the cell state. -/
structure Scr (F : FTy → Type) where
  b : Vec F S2x128x512 .bf16
  f : Vec F S2x128x512 .f32
  c : Vec F S2x64x512 .f32

variable (I : Ins F)

/-- The scratch cleared. -/
def clearS (s : Scr F) : Scr F :=
  ⟨VecWindow.put s.b ![0, 0, 0] S2x128x512.size (shapeCast S2x128x512 (broadcast S2x128x512 (Scalar.ofBits .bf16 0x0000#16) : FVec F S2x128x512 .bf16) shapeCasts_S2x128x512_S2x128x512),
   VecWindow.put s.f ![0, 0, 0] S2x128x512.size (shapeCast S2x128x512 (broadcast S2x128x512 (Scalar.ofBits .f32 0x00000000#32) : FVec F S2x128x512 .f32) shapeCasts_S2x128x512_S2x128x512),
   s.c⟩

/-- Half `u`'s row of ones written and its cell state cleared. -/
def setupS (u : Fin 2) (s : Scr F) : Scr F :=
  ⟨VecWindow.put s.b ![(u : ℕ), 2, 0] S1x2x512.size
     (updateSlice (VecWindow.window s.b ![(u : ℕ), 2, 0] S1x2x512.size (inRow2 u)) (shapeCast S1x1x512 (broadcast S1x512 (Scalar.ofBits .bf16 0x3F80#16) : FVec F S1x512 .bf16) shapeCasts_S1x512_S1x1x512) ![0, 0, 0] slices_S1x2x512_S1x1x512_0_0_0),
   VecWindow.put s.f ![(u : ℕ), 2, 0] S1x1x512.size (shapeCast S1x1x512 (broadcast S1x512 (Scalar.ofBits .f32 0x3F800000#32) : FVec F S1x512 .f32) shapeCasts_S1x512_S1x1x512),
   VecWindow.put s.c ![(u : ℕ), 0, 0] S1x64x512.size (shapeCast S1x64x512 (broadcast S64x512 (Scalar.ofBits .f32 0x00000000#32) : FVec F S64x512 .f32) shapeCasts_S64x512_S1x64x512)⟩

/-- The positions of step `t`, as loaded. -/
def posAt (t : Fin 15) : Vec F S1x2x1024 .f32 := VecWindow.window I.x ![(t : ℕ), 0, 0] S1x2x1024.size (inX t)

/-- The positions put into the state at the shorter format. -/
def headSB (t : Fin 15) (u : Fin 2) (s : Scr F) : Scr F :=
  { s with b := VecWindow.put s.b ![(u : ℕ), 0, 0] S1x2x512.size (shapeCast S1x2x512 (truncf .bf16 (posHalf u (posAt I t)) bitsLt_bf16_f32) shapeCasts_S2x512_S1x2x512) }

/-- The positions put into the state at the longer format. -/
def headSF (t : Fin 15) (u : Fin 2) (s : Scr F) : Scr F :=
  { s with f := VecWindow.put s.f ![(u : ℕ), 0, 0] S1x2x512.size (shapeCast S1x2x512 (posHalf u (posAt I t)) shapeCasts_S2x512_S1x2x512) }

/-- The product of weights and state, at either format. -/
def prodSB (u : Fin 2) (s : Scr F) : FVec F S256x512 .f32 :=
  prodB (VecWindow.window I.wb ![0, 0] S256x128.size inb_S256x128_S256x128_0_0) (VecWindow.window s.b ![(u : ℕ), 0, 0] S1x128x512.size (inAll u))

def prodSF (u : Fin 2) (s : Scr F) : FVec F S256x512 .f32 :=
  prodF (VecWindow.window I.wf ![0, 0] S256x128.size inb_S256x128_S256x128_0_0) (VecWindow.window s.f ![(u : ℕ), 0, 0] S1x128x512.size (inAll u))

/-- Half `u`'s cell state, as loaded. -/
def cellAt (u : Fin 2) (s : Scr F) : Vec F S1x64x512 .f32 := VecWindow.window s.c ![(u : ℕ), 0, 0] S1x64x512.size (inC u)

/-- The cell state updated. -/
def cellS (u : Fin 2) (G : FVec F S256x512 .f32) (s : Scr F) : Scr F :=
  { s with c := VecWindow.put s.c ![(u : ℕ), 0, 0] S1x64x512.size (shapeCast S1x64x512 (newC G (cellAt u s)) shapeCasts_S64x512_S1x64x512) }

/-- Cell and hidden state updated, the hidden state at the shorter format. -/
def tailSB (u : Fin 2) (G : FVec F S256x512 .f32) (s : Scr F) : Scr F :=
  { cellS u G s with b := VecWindow.put s.b ![(u : ℕ), 64, 0] S1x64x512.size (shapeCast S1x64x512 (truncf .bf16 (newH G (cellAt u s)) bitsLt_bf16_f32) shapeCasts_S64x512_S1x64x512) }

/-- Cell and hidden state updated, the hidden state at the longer format. -/
def tailSF (u : Fin 2) (G : FVec F S256x512 .f32) (s : Scr F) : Scr F :=
  { cellS u G s with f := VecWindow.put s.f ![(u : ℕ), 64, 0] S1x64x512.size (shapeCast S1x64x512 (newH G (cellAt u s)) shapeCasts_S64x512_S1x64x512) }

/-- One half's step, in its three kinds. -/
def stepBB (t : Fin 15) (u : Fin 2) (s : Scr F) : Scr F := tailSB u (prodSB I u (headSB I t u s)) (headSB I t u s)
def stepBF (t : Fin 15) (u : Fin 2) (s : Scr F) : Scr F := tailSF u (prodSB I u (headSB I t u s)) (headSB I t u s)
def stepFF (t : Fin 15) (u : Fin 2) (s : Scr F) : Scr F := tailSF u (prodSF I u (headSF I t u s)) (headSF I t u s)

/-- The scratch after a list of steps. -/
def runSB (s : Scr F) (ts : List (Fin 15)) : Scr F := ts.foldl (fun s t => stepBB I t 1 (stepBB I t 0 s)) s
def runSF (s : Scr F) (ts : List (Fin 15)) : Scr F := ts.foldl (fun s t => stepFF I t 1 (stepFF I t 0 s)) s

/-- The scratch after every step. -/
def lastS (s : Scr F) : Scr F :=
  runSF I (stepBF I 9 1 (stepBF I 9 0 (runSB I (setupS 1 (setupS 0 (clearS s))) early))) late

/-- Half `u`'s sum by cell. -/
def binS (u : Fin 2) (s : Scr F) : FVec F S16x64 .f32 :=
  cellSum u (posAt I 14) (VecWindow.window s.f ![(u : ℕ), 64, 0] S1x64x512.size (inH u))
    (VecWindow.window I.tg ![0, 0] S1x1.size inb_S1x2_S1x1_0_0) (VecWindow.window I.tg ![0, 1] S1x1.size inb_S1x2_S1x1_0_1)
    (VecWindow.window I.mask ![0, 512 * (u : ℕ)] S1x512.size (inMask u))

/-- The value stored. -/
def sumS (s : Scr F) : Vec F S1x16x64 .f32 :=
  shapeCast S1x16x64 (addf (addf (broadcast S16x64 (Scalar.ofBits .f32 0x00000000#32)) (binS I 0 s)) (binS I 1 s)) shapeCasts_S16x64_S1x16x64

/-! ## The triples -/

variable (c : Dev nD) (M : Mems)

/-- The kernel's buffers, owned: the inputs at `I`, the output at anything, the scratch at `s`. -/
def St (s : Scr F) : sProp 𝕄 :=
  iprop(owns (c : Thread nD τ) M.arg1 fullShare I.x ∗ owns (c : Thread nD τ) M.arg2 fullShare I.mask ∗ owns (c : Thread nD τ) M.arg3 fullShare I.tg
    ∗ owns (c : Thread nD τ) M.arg4 fullShare I.wb ∗ owns (c : Thread nD τ) M.arg5 fullShare I.wf ∗ (∃ d, owns (c : Thread nD τ) M.arg6 fullShare d)
    ∗ owns (c : Thread nD τ) M.arg7 fullShare s.b ∗ owns (c : Thread nD τ) M.arg8 fullShare s.f ∗ owns (c : Thread nD τ) M.arg9 fullShare s.c)

/-- The program `p` run from scratch `s`. -/
abbrev W (E : Set ℕ) (Q : PUnit → sProp 𝕄) (p : P F) : sProp 𝕄 := wp frame (wpE (defs₀ (F := F)) Variants.none (c : Thread nD τ) none) E p Q

variable {E : Set ℕ} {Q : PUnit.{1} → sProp (MT nD τ sig Unit (Elt F) ℕ (UR sig nD τ) ℕ)}

/-- The positions put in and the product taken, at the shorter format. -/
theorem wp_headB (t : Fin 15) (u : Fin 2) (K : FVec F S256x512 .f32 → P F) (s : Scr F) :
    iprop(St I c M s ∗ (St I c M (headSB I t u s) -∗ W c E Q (K (prodSB I u (headSB I t u s))))) ⊢ W c E Q (headB M t u K) := by
  unfold St headB
  iintro ⟨⟨H1, H2, H3, H4, H5, H6, H7, H8, H9⟩, Hk⟩
  iapply load_owns
  isplitl [H1]; · iexact H1
  iintro H1
  iapply load_owns
  isplitl [H7]; · iexact H7
  iintro H7
  iapply store_owns
  isplitl [H7]; · iexact H7
  iintro H7
  iapply load_owns
  isplitl [H4]; · iexact H4
  iintro H4
  iapply load_owns
  isplitl [H7]; · iexact H7
  iintro H7
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The same at the longer format. -/
theorem wp_headF (t : Fin 15) (u : Fin 2) (K : FVec F S256x512 .f32 → P F) (s : Scr F) :
    iprop(St I c M s ∗ (St I c M (headSF I t u s) -∗ W c E Q (K (prodSF I u (headSF I t u s))))) ⊢ W c E Q (headF M t u K) := by
  unfold St headF
  iintro ⟨⟨H1, H2, H3, H4, H5, H6, H7, H8, H9⟩, Hk⟩
  iapply load_owns
  isplitl [H1]; · iexact H1
  iintro H1
  iapply load_owns
  isplitl [H8]; · iexact H8
  iintro H8
  iapply store_owns
  isplitl [H8]; · iexact H8
  iintro H8
  iapply load_owns
  isplitl [H5]; · iexact H5
  iintro H5
  iapply load_owns
  isplitl [H8]; · iexact H8
  iintro H8
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The two states updated, the hidden one at the shorter format. -/
theorem wp_tailB (u : Fin 2) (K : P F) (G : FVec F S256x512 .f32) (s : Scr F) :
    iprop(St I c M s ∗ (St I c M (tailSB u G s) -∗ W c E Q (K))) ⊢ W c E Q (tailB M u K G) := by
  unfold St tailB cellStep
  iintro ⟨⟨H1, H2, H3, H4, H5, H6, H7, H8, H9⟩, Hk⟩
  iapply load_owns
  isplitl [H9]; · iexact H9
  iintro H9
  iapply load_owns
  isplitl [H9]; · iexact H9
  iintro H9
  iapply store_owns
  isplitl [H9]; · iexact H9
  iintro H9
  iapply load_owns
  isplitl [H7]; · iexact H7
  iintro H7
  iapply store_owns
  isplitl [H7]; · iexact H7
  iintro H7
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The two states updated, the hidden one at the longer format. -/
theorem wp_tailF (u : Fin 2) (K : P F) (G : FVec F S256x512 .f32) (s : Scr F) :
    iprop(St I c M s ∗ (St I c M (tailSF u G s) -∗ W c E Q (K))) ⊢ W c E Q (tailF M u K G) := by
  unfold St tailF cellStep
  iintro ⟨⟨H1, H2, H3, H4, H5, H6, H7, H8, H9⟩, Hk⟩
  iapply load_owns
  isplitl [H9]; · iexact H9
  iintro H9
  iapply load_owns
  isplitl [H9]; · iexact H9
  iintro H9
  iapply store_owns
  isplitl [H9]; · iexact H9
  iintro H9
  iapply load_owns
  isplitl [H8]; · iexact H8
  iintro H8
  iapply store_owns
  isplitl [H8]; · iexact H8
  iintro H8
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The state buffers cleared. -/
theorem wp_clear (K : P F) (s : Scr F) :
    iprop(St I c M s ∗ (St I c M (clearS s) -∗ W c E Q (K))) ⊢ W c E Q (clear M K) := by
  unfold St clear
  iintro ⟨⟨H1, H2, H3, H4, H5, H6, H7, H8, H9⟩, Hk⟩
  iapply load_owns
  isplitl [H7]; · iexact H7
  iintro H7
  iapply store_owns
  isplitl [H7]; · iexact H7
  iintro H7
  iapply load_owns
  isplitl [H8]; · iexact H8
  iintro H8
  iapply store_owns
  isplitl [H8]; · iexact H8
  iintro H8
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- A half's row of ones written and its cell state cleared. -/
theorem wp_setup (u : Fin 2) (K : P F) (s : Scr F) :
    iprop(St I c M s ∗ (St I c M (setupS u s) -∗ W c E Q (K))) ⊢ W c E Q (setup M u K) := by
  unfold St setup
  iintro ⟨⟨H1, H2, H3, H4, H5, H6, H7, H8, H9⟩, Hk⟩
  iapply load_owns
  isplitl [H7]; · iexact H7
  iintro H7
  iapply load_owns
  isplitl [H7]; · iexact H7
  iintro H7
  iapply store_owns
  isplitl [H7]; · iexact H7
  iintro H7
  iapply load_owns
  isplitl [H8]; · iexact H8
  iintro H8
  iapply store_owns
  isplitl [H8]; · iexact H8
  iintro H8
  iapply load_owns
  isplitl [H9]; · iexact H9
  iintro H9
  iapply store_owns
  isplitl [H9]; · iexact H9
  iintro H9
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- What a half's sum by cell reads. -/
theorem wp_bin (u : Fin 2) (K : FVec F S16x64 .f32 → P F) (s : Scr F) :
    iprop(St I c M s ∗ (St I c M (s) -∗ W c E Q (K (binS I u s)))) ⊢ W c E Q (bin M u (posAt I 14) K) := by
  unfold St bin
  iintro ⟨⟨H1, H2, H3, H4, H5, H6, H7, H8, H9⟩, Hk⟩
  iapply load_owns
  isplitl [H8]; · iexact H8
  iintro H8
  iapply load_owns
  isplitl [H3]; · iexact H3
  iintro H3
  iapply load_owns
  isplitl [H3]; · iexact H3
  iintro H3
  iapply load_owns
  isplitl [H2]; · iexact H2
  iintro H2
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- One half's step, in its three kinds. -/
theorem wp_stepBB (t : Fin 15) (u : Fin 2) (K : P F) (s : Scr F) :
    iprop(St I c M s ∗ (St I c M (stepBB I t u s) -∗ W c E Q K)) ⊢ W c E Q (headB M t u (tailB M u K)) := by
  iintro ⟨H, Hk⟩
  iapply wp_headB
  isplitl [H]; · iexact H
  iintro H
  iapply wp_tailB
  isplitl [H]; · iexact H
  iexact Hk

theorem wp_stepBF (t : Fin 15) (u : Fin 2) (K : P F) (s : Scr F) :
    iprop(St I c M s ∗ (St I c M (stepBF I t u s) -∗ W c E Q K)) ⊢ W c E Q (headB M t u (tailF M u K)) := by
  iintro ⟨H, Hk⟩
  iapply wp_headB
  isplitl [H]; · iexact H
  iintro H
  iapply wp_tailF
  isplitl [H]; · iexact H
  iexact Hk

theorem wp_stepFF (t : Fin 15) (u : Fin 2) (K : P F) (s : Scr F) :
    iprop(St I c M s ∗ (St I c M (stepFF I t u s) -∗ W c E Q K)) ⊢ W c E Q (headF M t u (tailF M u K)) := by
  iintro ⟨H, Hk⟩
  iapply wp_headF
  isplitl [H]; · iexact H
  iintro H
  iapply wp_tailF
  isplitl [H]; · iexact H
  iexact Hk

/-- A list of steps. -/
theorem wp_runB (K : P F) (ts : List (Fin 15)) (s : Scr F) :
    iprop(St I c M s ∗ (St I c M (runSB I s ts) -∗ W c E Q K)) ⊢ W c E Q (runB M K ts) := by
  induction ts generalizing s with
  | nil =>
    iintro ⟨H, Hk⟩
    iapply Hk
    iexact H
  | cons t ts ih =>
    iintro ⟨H, Hk⟩
    iapply wp_stepBB
    isplitl [H]; · iexact H
    iintro H
    iapply wp_stepBB
    isplitl [H]; · iexact H
    iintro H
    iapply ih
    isplitl [H]; · iexact H
    iexact Hk

theorem wp_runF (K : P F) (ts : List (Fin 15)) (s : Scr F) :
    iprop(St I c M s ∗ (St I c M (runSF I s ts) -∗ W c E Q K)) ⊢ W c E Q (runF M K ts) := by
  induction ts generalizing s with
  | nil =>
    iintro ⟨H, Hk⟩
    iapply Hk
    iexact H
  | cons t ts ih =>
    iintro ⟨H, Hk⟩
    iapply wp_stepFF
    isplitl [H]; · iexact H
    iintro H
    iapply wp_stepFF
    isplitl [H]; · iexact H
    iintro H
    iapply ih
    isplitl [H]; · iexact H
    iexact Hk

/-- A store of a buffer's own sizes leaves the payload. -/
theorem put_full {s : Shape} {α : Type} (x w : s.Idx → α) (off : Fin s.rank → ℕ) (h : ∀ a, off a = 0) :
    VecWindow.put x off s.size w = w := by
  obtain rfl : off = fun _ => 0 := funext h
  rw [VecWindow.put_eq_updateSlice x _ s.size (fun a => by simp)]
  funext y
  unfold updateSlice
  rw [dif_pos (fun a => ⟨Nat.zero_le _, by simpa using (y a).isLt⟩)]
  rfl

/-- The kernel's buffers after it: the inputs unchanged, the output at `o`, the scratch at anything. -/
def Done (o : Vec F S1x16x64 .f32) : sProp 𝕄 :=
  iprop(owns (c : Thread nD τ) M.arg1 fullShare I.x ∗ owns (c : Thread nD τ) M.arg2 fullShare I.mask ∗ owns (c : Thread nD τ) M.arg3 fullShare I.tg
    ∗ owns (c : Thread nD τ) M.arg4 fullShare I.wb ∗ owns (c : Thread nD τ) M.arg5 fullShare I.wf ∗ owns (c : Thread nD τ) M.arg6 fullShare o
    ∗ (∃ d, owns (c : Thread nD τ) M.arg7 fullShare d) ∗ (∃ d, owns (c : Thread nD τ) M.arg8 fullShare d) ∗ (∃ d, owns (c : Thread nD τ) M.arg9 fullShare d))

/-- The last part: the sum by cell, stored. -/
theorem wp_finish (s : Scr F) :
    iprop(St I c M s ∗ (Done I c M (sumS I s) -∗ Q ⟨⟩)) ⊢ W c E Q (finish M) := by
  unfold finish
  iintro ⟨H, Hk⟩
  unfold St
  icases H with ⟨H1, H2, H3, H4, H5, H6, H7, H8, H9⟩
  iapply load_owns
  isplitl [H1]; · iexact H1
  iintro H1
  iapply (wp_bin I c M 0 _ s)
  isplitl [H1 H2 H3 H4 H5 H6 H7 H8 H9]
  · unfold St; iframe
  iintro H
  iapply (wp_bin I c M 1 _ s)
  isplitl [H]; · iexact H
  iintro H
  unfold St
  icases H with ⟨H1, H2, H3, H4, H5, ⟨%d, H6⟩, H7, H8, H9⟩
  iapply load_owns
  isplitl [H6]; · iexact H6
  iintro H6
  iapply store_owns
  isplitl [H6]; · iexact H6
  iintro H6
  rw [wp_ret]; imodintro
  rw [put_full d _ _ (fun a => by fin_cases a <;> rfl)]
  iapply Hk
  unfold Done
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iexists _; iexact H9

/-- The whole kernel: its inputs unchanged, its output the sum by cell. -/
theorem wp_body (s : Scr F) :
    iprop(St I c M s ∗ (Done I c M (sumS I (lastS I s)) -∗ Q ⟨⟩)) ⊢ W c E Q (body M) := by
  unfold body pass
  iintro ⟨H, Hk⟩
  iapply wp_clear
  isplitl [H]; · iexact H
  iintro H
  iapply wp_setup
  isplitl [H]; · iexact H
  iintro H
  iapply wp_setup
  isplitl [H]; · iexact H
  iintro H
  iapply wp_runB
  isplitl [H]; · iexact H
  iintro H
  iapply wp_stepBF
  isplitl [H]; · iexact H
  iintro H
  iapply wp_stepBF
  isplitl [H]; · iexact H
  iintro H
  iapply wp_runF
  isplitl [H]; · iexact H
  iintro H
  iapply (wp_finish I c M (lastS I s))
  isplitl [H]; · iexact H
  iexact Hk

end Cert.KernelIdeal.Hand
-- ==== Proof.KernelIdeal.Finish.lean ====
/-
  The finishing kernel, told again by its structure: the target's fifteen steps, the context from the
  summed cells, the last linear layer. Each piece is a program with what follows it as an argument,
  next to it the pure values it computes. `finish_eq` says the printed kernel is this program, and
  `wp_finishBody` that it leaves its inputs as they are and its output at `outS`.
-/
module

public import proofs.«01_k».proof.Proof.KernelIdeal.NeighborsRun

@[expose] public section

noncomputable section

namespace Cert.KernelIdeal.Hand.Fin1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Hand Cert.Mem
open Facts₀ Facts

variable {F : FTy → Type} [FloatOps F]

local notation "𝕄" => MT nD τ sig Unit (Elt F) ℕ (UR sig nD τ) ℕ

theorem inT (t : Fin 15) : ∀ a, (![(t : ℕ), 0, 0] : Fin 3 → ℕ) a + S1x1x2.size a ≤ S15x1x2.size a := by
  have := t.isLt
  intro a; fin_cases a <;> simp [S1x1x2, S15x1x2] <;> omega

theorem inW1 (k : Fin 16) : ∀ a, (![(k : ℕ), 0, 0] : Fin 3 → ℕ) a + S1x64x64.size a ≤ S16x64x64.size a := by
  have := k.isLt
  intro a; fin_cases a <;> simp [S1x64x64, S16x64x64] <;> omega

theorem slCell (k : Fin 16) : S16x64.Slices ![(k : ℕ), 0] S1x64 :=
  ⟨rfl, by
    have := k.isLt
    intro a; fin_cases a <;> simp [S1x64, S16x64] <;> omega⟩

/-! ## The pure values -/

/-- The target's gates, before their functions. -/
def gates (x : Vec F S1x1x2 .f32) (wi : Vec F S2x256 .f32) (wh : Vec F S64x256 .f32) (b : Vec F S1x256 .f32) (h : FVec F S1x64 .f32) : FVec F S1x256 .f32 :=
  addf (addf (matmul dot_S1x2_S2x256_S1x256_1_0_0_1_n_n none (shapeCast S1x2 x shapeCasts_S1x1x2_S1x2 : FVec F S1x2 .f32)
      (shapeCast S2x256 wi shapeCasts_S2x256_S2x256 : FVec F S2x256 .f32) (constant S1x256 .f32 0x00000000#32))
    (matmul dot_S1x64_S64x256_S1x256_1_0_0_1_n_n none h (shapeCast S64x256 wh shapeCasts_S64x256_S64x256 : FVec F S64x256 .f32) (constant S1x256 .f32 0x00000000#32)))
    (shapeCast S1x256 b shapeCasts_S1x256_S1x256)

/-- The next cell state from the gates. -/
def nextC (G : FVec F S1x256 .f32) (c : FVec F S1x64 .f32) : FVec F S1x64 .f32 :=
  addf (mulf (logistic (extractStridedSlice S1x64 ![0, 64] G slices_S1x256_o0_64_S1x64)) c)
    (mulf (logistic (extractStridedSlice S1x64 ![0, 0] G slices_S1x256_o0_0_S1x64)) (tanh (extractStridedSlice S1x64 ![0, 128] G slices_S1x256_o0_128_S1x64)))

/-- The next hidden state from the gates. -/
def nextH (G : FVec F S1x256 .f32) (c : FVec F S1x64 .f32) : FVec F S1x64 .f32 :=
  mulf (logistic (extractStridedSlice S1x64 ![0, 192] G slices_S1x256_o0_192_S1x64)) (tanh (nextC G c))

/-- The sum of the grid points' sums by cell. -/
def total (p : Vec F S49x16x64 .f32) : FVec F S16x64 .f32 :=
  multiReduction .add [0] S16x64 (shapeCast S49x16x64 p shapeCasts_S49x16x64_S49x16x64 : FVec F S49x16x64 .f32) 0x00000000#32 reduces_S49x16x64_S16x64 (.inl rfl) rfl

/-- One cell's share of the context layer, added. -/
def ctxAdd (k : Fin 16) (s : FVec F S16x64 .f32) (w : Vec F S1x64x64 .f32) (a : FVec F S1x64 .f32) : FVec F S1x64 .f32 :=
  addf a (matmul dot_S1x64_S64x64_S1x64_1_0_0_1_n_n none (extractStridedSlice S1x64 ![(k : ℕ), 0] s (slCell k))
    (shapeCast S64x64 w shapeCasts_S1x64x64_S64x64 : FVec F S64x64 .f32) (constant S1x64 .f32 0x00000000#32))

/-- The context added to the hidden state. -/
def combine (h a : FVec F S1x64 .f32) (w2 : Vec F S64x64 .f32) (b2 : Vec F S1x64 .f32) : FVec F S1x64 .f32 :=
  addf h (addf (matmul dot_S1x64_S64x64_S1x64_1_0_0_1_n_n none (maximumf a (broadcast S1x64 (Scalar.ofBits .f32 0x00000000#32)))
    (shapeCast S64x64 w2 shapeCasts_S64x64_S64x64 : FVec F S64x64 .f32) (constant S1x64 .f32 0x00000000#32)) (shapeCast S1x64 b2 shapeCasts_S1x64_S1x64))

/-- The last linear layer. -/
def linear (x : FVec F S1x64 .f32) (w : Vec F S64x2 .f32) (b : Vec F S1x2 .f32) : FVec F S1x2 .f32 :=
  addf (matmul dot_S1x64_S64x2_S1x2_1_0_0_1_n_n none x (shapeCast S64x2 w shapeCasts_S64x2_S64x2 : FVec F S64x2 .f32) (constant S1x2 .f32 0x00000000#32))
    (shapeCast S1x2 b shapeCasts_S1x2_S1x2)

/-! ## The program -/

/-- The buffers the kernel works on. -/
structure Mems where
  arg0 : Memref sig .tc .vmem S49x16x64 .f32
  arg1 : Memref sig .tc .vmem S15x1x2 .f32
  arg2 : Memref sig .tc .vmem S2x256 .f32
  arg3 : Memref sig .tc .vmem S64x256 .f32
  arg4 : Memref sig .tc .vmem S1x256 .f32
  arg5 : Memref sig .tc .vmem S16x64x64 .f32
  arg6 : Memref sig .tc .vmem S1x64 .f32
  arg7 : Memref sig .tc .vmem S64x64 .f32
  arg8 : Memref sig .tc .vmem S1x64 .f32
  arg9 : Memref sig .tc .vmem S64x2 .f32
  arg10 : Memref sig .tc .vmem S1x2 .f32
  arg11 : Memref sig .tc .vmem S1x2 .f32

variable (M : Mems)

/-- One of the target's steps. -/
def step (t : Fin 15) (h c : FVec F S1x64 .f32) (K : FVec F S1x64 .f32 → FVec F S1x64 .f32 → P F) : P F :=
  .op (.load M.arg1 (Rect.unit (s := S15x1x2) ![(t : ℕ), 0, 0] S1x1x2.size (inT t)).toLoadRect (View.loadsAt_vmem h_S1x1x2)) fun x =>
  .op (.load M.arg2 (Rect.unit (s := S2x256) ![0, 0] S2x256.size inb_S2x256_S2x256_0_0).toLoadRect (View.loadsAt_vmem h_S2x256)) fun wi =>
  .op (.load M.arg3 (Rect.unit (s := S64x256) ![0, 0] S64x256.size inb_S64x256_S64x256_0_0).toLoadRect (View.loadsAt_vmem h_S64x256)) fun wh =>
  .op (.load M.arg4 (Rect.unit (s := S1x256) ![0, 0] S1x256.size inb_S1x256_S1x256_0_0).toLoadRect (View.loadsAt_vmem h_S1x256)) fun b =>
  K (nextH (gates x wi wh b h) c) (nextC (gates x wi wh b h) c)

/-- The steps `ts`. -/
def steps (K : FVec F S1x64 .f32 → P F) : List (Fin 15) → FVec F S1x64 .f32 → FVec F S1x64 .f32 → P F
  | [], h, _ => K h
  | t :: ts, h, c => step M t h c (steps K ts)

/-- The cells `ks` added to the context layer. -/
def cells (s : FVec F S16x64 .f32) (K : FVec F S1x64 .f32 → P F) : List (Fin 16) → FVec F S1x64 .f32 → P F
  | [], a => K a
  | k :: ks, a =>
    .op (.load M.arg5 (Rect.unit (s := S16x64x64) ![(k : ℕ), 0, 0] S1x64x64.size (inW1 k)).toLoadRect (View.loadsAt_vmem h_S1x64x64)) fun w =>
    cells s K ks (ctxAdd k s w a)

/-- The context finished and the last layer stored. -/
def close (h a : FVec F S1x64 .f32) : P F :=
  .op (.load M.arg7 (Rect.unit (s := S64x64) ![0, 0] S64x64.size inb_S64x64_S64x64_0_0).toLoadRect (View.loadsAt_vmem h_S64x64)) fun w2 =>
  .op (.load M.arg8 (Rect.unit (s := S1x64) ![0, 0] S1x64.size inb_S1x64_S1x64_0_0).toLoadRect (View.loadsAt_vmem h_S1x64)) fun b2 =>
  .op (.load M.arg9 (Rect.unit (s := S64x2) ![0, 0] S64x2.size inb_S64x2_S64x2_0_0).toLoadRect (View.loadsAt_vmem h_S64x2)) fun w =>
  .op (.load M.arg10 (Rect.unit (s := S1x2) ![0, 0] S1x2.size inb_S1x2_S1x2_0_0).toLoadRect (View.loadsAt_vmem h_S1x2)) fun b =>
  .op (.load M.arg11 (Rect.unit (s := S1x2) ![0, 0] S1x2.size inb_S1x2_S1x2_0_0).toLoadRect (View.loadsAt_vmem h_S1x2)) fun _ =>
  .op (.store M.arg11 (Rect.unit (s := S1x2) ![0, 0] S1x2.size inb_S1x2_S1x2_0_0) (linear (combine h a w2 b2) w b) Finset.univ
    (View.stores_vmem_bits_univ h_S1x2 rfl) (.inl rfl)) fun _ => .ret ⟨⟩

/-- Every step, and every cell. -/
def allSteps : List (Fin 15) := [0, 1, 2, 3, 4, 5, 6, 7, 8, 9, 10, 11, 12, 13, 14]
def allCells : List (Fin 16) := [0, 1, 2, 3, 4, 5, 6, 7, 8, 9, 10, 11, 12, 13, 14, 15]

/-- A cleared state. -/
def zero : FVec F S1x64 .f32 := broadcast S1x64 (Scalar.ofBits .f32 0x00000000#32)

/-- The whole kernel. -/
def body : P F :=
  .op (.load M.arg0 (Rect.unit (s := S49x16x64) ![0, 0, 0] S49x16x64.size inb_S49x16x64_S49x16x64_0_0_0).toLoadRect (View.loadsAt_vmem h_S49x16x64)) fun p =>
  steps M (fun h =>
    .op (.load M.arg6 (Rect.unit (s := S1x64) ![0, 0] S1x64.size inb_S1x64_S1x64_0_0).toLoadRect (View.loadsAt_vmem h_S1x64)) fun b1 =>
    cells M (total p) (fun a => close M h a) allCells (shapeCast S1x64 b1 shapeCasts_S1x64_S1x64)) allSteps zero zero

/-- The printed kernel is this program. -/
theorem finish_eq (harg0 : M.arg0.IsWhole) (harg1 : M.arg1.IsWhole) (harg2 : M.arg2.IsWhole) (harg3 : M.arg3.IsWhole) (harg4 : M.arg4.IsWhole)
    (harg5 : M.arg5.IsWhole) (harg6 : M.arg6.IsWhole) (harg7 : M.arg7.IsWhole) (harg8 : M.arg8.IsWhole) (harg9 : M.arg9.IsWhole) (harg10 : M.arg10.IsWhole)
    (harg11 : M.arg11.IsWhole) :
    cc1_social_lstm_finish (F := F) M.arg0 harg0 M.arg1 harg1 M.arg2 harg2 M.arg3 harg3 M.arg4 harg4 M.arg5 harg5 M.arg6 harg6 M.arg7 harg7 M.arg8 harg8 M.arg9 harg9
      M.arg10 harg10 M.arg11 harg11 = body M := by
  chain_rfl

/-! ## The triples -/

/-- The inputs. -/
structure Ins (F : FTy → Type) where
  p : Vec F S49x16x64 .f32
  x : Vec F S15x1x2 .f32
  wi : Vec F S2x256 .f32
  wh : Vec F S64x256 .f32
  b : Vec F S1x256 .f32
  w1 : Vec F S16x64x64 .f32
  b1 : Vec F S1x64 .f32
  w2 : Vec F S64x64 .f32
  b2 : Vec F S1x64 .f32
  wc : Vec F S64x2 .f32
  bc : Vec F S1x2 .f32

variable (I : Ins F)

/-- The gates of step `t` from hidden state `h`. -/
def gatesS (t : Fin 15) (h : FVec F S1x64 .f32) : FVec F S1x256 .f32 :=
  gates (VecWindow.window I.x ![(t : ℕ), 0, 0] S1x1x2.size (inT t)) (VecWindow.window I.wi ![0, 0] S2x256.size inb_S2x256_S2x256_0_0)
    (VecWindow.window I.wh ![0, 0] S64x256.size inb_S64x256_S64x256_0_0) (VecWindow.window I.b ![0, 0] S1x256.size inb_S1x256_S1x256_0_0) h

/-- The hidden state after the steps `ts`. -/
def stepsS : List (Fin 15) → FVec F S1x64 .f32 → FVec F S1x64 .f32 → FVec F S1x64 .f32
  | [], h, _ => h
  | t :: ts, h, c => stepsS ts (nextH (gatesS I t h) c) (nextC (gatesS I t h) c)

/-- The context layer after the cells `ks`. -/
def cellsS (s : FVec F S16x64 .f32) : List (Fin 16) → FVec F S1x64 .f32 → FVec F S1x64 .f32
  | [], a => a
  | k :: ks, a => cellsS s ks (ctxAdd k s (VecWindow.window I.w1 ![(k : ℕ), 0, 0] S1x64x64.size (inW1 k)) a)

/-- The value stored. -/
def outS : Vec F S1x2 .f32 :=
  linear (combine (stepsS I allSteps zero zero)
      (cellsS I (total (VecWindow.window I.p ![0, 0, 0] S49x16x64.size inb_S49x16x64_S49x16x64_0_0_0)) allCells
        (shapeCast S1x64 (VecWindow.window I.b1 ![0, 0] S1x64.size inb_S1x64_S1x64_0_0) shapeCasts_S1x64_S1x64))
      (VecWindow.window I.w2 ![0, 0] S64x64.size inb_S64x64_S64x64_0_0) (VecWindow.window I.b2 ![0, 0] S1x64.size inb_S1x64_S1x64_0_0))
    (VecWindow.window I.wc ![0, 0] S64x2.size inb_S64x2_S64x2_0_0) (VecWindow.window I.bc ![0, 0] S1x2.size inb_S1x2_S1x2_0_0)

variable (c : Dev nD)

/-- The inputs, owned at `I`. -/
def Held : sProp 𝕄 :=
  iprop(owns (c : Thread nD τ) M.arg0 fullShare I.p ∗ owns (c : Thread nD τ) M.arg1 fullShare I.x ∗ owns (c : Thread nD τ) M.arg2 fullShare I.wi
    ∗ owns (c : Thread nD τ) M.arg3 fullShare I.wh ∗ owns (c : Thread nD τ) M.arg4 fullShare I.b ∗ owns (c : Thread nD τ) M.arg5 fullShare I.w1
    ∗ owns (c : Thread nD τ) M.arg6 fullShare I.b1 ∗ owns (c : Thread nD τ) M.arg7 fullShare I.w2 ∗ owns (c : Thread nD τ) M.arg8 fullShare I.b2
    ∗ owns (c : Thread nD τ) M.arg9 fullShare I.wc ∗ owns (c : Thread nD τ) M.arg10 fullShare I.bc)

variable {E : Set ℕ} {Q : PUnit.{1} → sProp (MT nD τ sig Unit (Elt F) ℕ (UR sig nD τ) ℕ)}

theorem wp_step (t : Fin 15) (h k : FVec F S1x64 .f32) (K : FVec F S1x64 .f32 → FVec F S1x64 .f32 → P F) :
    iprop(Held M I c ∗ (Held M I c -∗ W c E Q (K (nextH (gatesS I t h) k) (nextC (gatesS I t h) k)))) ⊢ W c E Q (step M t h k K) := by
  unfold Held step
  iintro ⟨⟨H0, H1, H2, H3, H4, H5⟩, Hk⟩
  iapply load_owns
  isplitl [H1]; · iexact H1
  iintro H1
  iapply load_owns
  isplitl [H2]; · iexact H2
  iintro H2
  iapply load_owns
  isplitl [H3]; · iexact H3
  iintro H3
  iapply load_owns
  isplitl [H4]; · iexact H4
  iintro H4
  iapply Hk
  iframe

theorem wp_steps (K : FVec F S1x64 .f32 → P F) (ts : List (Fin 15)) (h k : FVec F S1x64 .f32) :
    iprop(Held M I c ∗ (Held M I c -∗ W c E Q (K (stepsS I ts h k)))) ⊢ W c E Q (steps M K ts h k) := by
  induction ts generalizing h k with
  | nil =>
    iintro ⟨H, Hk⟩
    iapply Hk
    iexact H
  | cons t ts ih =>
    iintro ⟨H, Hk⟩
    iapply (wp_step M I c t h k (steps M K ts))
    isplitl [H]; · iexact H
    iintro H
    iapply ih
    isplitl [H]; · iexact H
    iexact Hk

theorem wp_cells (s : FVec F S16x64 .f32) (K : FVec F S1x64 .f32 → P F) (ks : List (Fin 16)) (a : FVec F S1x64 .f32) :
    iprop(Held M I c ∗ (Held M I c -∗ W c E Q (K (cellsS I s ks a)))) ⊢ W c E Q (cells M s K ks a) := by
  induction ks generalizing a with
  | nil =>
    iintro ⟨H, Hk⟩
    iapply Hk
    iexact H
  | cons k ks ih =>
    iintro ⟨H, Hk⟩
    unfold Held
    icases H with ⟨H0, H1, H2, H3, H4, H5, H6⟩
    iapply load_owns
    isplitl [H5]; · iexact H5
    iintro H5
    iapply ih
    isplitl [H0 H1 H2 H3 H4 H5 H6]
    · unfold Held; iframe
    unfold Held
    iexact Hk

theorem wp_close (h a : FVec F S1x64 .f32) :
    iprop(Held M I c ∗ (∃ d, owns (c : Thread nD τ) M.arg11 fullShare d)
      ∗ (iprop(Held M I c ∗ owns (c : Thread nD τ) M.arg11 fullShare
          (linear (combine h a (VecWindow.window I.w2 ![0, 0] S64x64.size inb_S64x64_S64x64_0_0) (VecWindow.window I.b2 ![0, 0] S1x64.size inb_S1x64_S1x64_0_0))
            (VecWindow.window I.wc ![0, 0] S64x2.size inb_S64x2_S64x2_0_0) (VecWindow.window I.bc ![0, 0] S1x2.size inb_S1x2_S1x2_0_0))) -∗ Q ⟨⟩))
      ⊢ W c E Q (close M h a) := by
  unfold Held close
  iintro ⟨⟨H0, H1, H2, H3, H4, H5, H6, H7, H8, H9, H10⟩, ⟨%d, H11⟩, Hk⟩
  iapply load_owns
  isplitl [H7]; · iexact H7
  iintro H7
  iapply load_owns
  isplitl [H8]; · iexact H8
  iintro H8
  iapply load_owns
  isplitl [H9]; · iexact H9
  iintro H9
  iapply load_owns
  isplitl [H10]; · iexact H10
  iintro H10
  iapply load_owns
  isplitl [H11]; · iexact H11
  iintro H11
  iapply store_owns
  isplitl [H11]; · iexact H11
  iintro H11
  rw [wp_ret]; imodintro
  rw [put_full d _ _ (fun a => by fin_cases a <;> rfl)]
  iapply Hk
  iframe

/-- The whole kernel: its inputs unchanged, its output `outS`. -/
theorem wp_finishBody :
    iprop(Held M I c ∗ (∃ d, owns (c : Thread nD τ) M.arg11 fullShare d)
      ∗ (iprop(Held M I c ∗ owns (c : Thread nD τ) M.arg11 fullShare (outS I)) -∗ Q ⟨⟩)) ⊢ W c E Q (body M) := by
  unfold body
  iintro ⟨H, H11, Hk⟩
  unfold Held
  icases H with ⟨H0, H1, H2, H3, H4, H5, H6, H7⟩
  iapply load_owns
  isplitl [H0]; · iexact H0
  iintro H0
  iapply (wp_steps M I c)
  isplitl [H0 H1 H2 H3 H4 H5 H6 H7]
  · unfold Held; iframe
  iintro H
  unfold Held
  icases H with ⟨H0, H1, H2, H3, H4, H5, H6, H7⟩
  iapply load_owns
  isplitl [H6]; · iexact H6
  iintro H6
  iapply (wp_cells M I c)
  isplitl [H0 H1 H2 H3 H4 H5 H6 H7]
  · unfold Held; iframe
  iintro H
  iapply (wp_close M I c)
  isplitl [H]; · iexact H
  isplitl [H11]; · iexact H11
  unfold Held
  iexact Hk

end Cert.KernelIdeal.Hand.Fin1
-- ==== Proof.KernelIdeal.RegionBodies.lean ====
/-
  The two regions' bodies, as the launch wants them: for a region entered with buffers `V`, what each
  window's staging buffer holds at each grid point, and the body's obligation there.
-/
module

public import proofs.«01_k».proof.Proof.KernelIdeal.Finish
public import proofs.«01_k».proof.Proof.Gen.KernelIdeal.Points

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.Mem
open Cert.KernelIdeal.Gen (bigSep_W0 bigSep_W1 scopedRest0_eq bodyAt0 bodyAt1 st0_0 st0_1 st0_2 st0_3 st0_4 st0_5
  st1_0 st1_1 st1_2 st1_3 st1_4 st1_5 st1_6 st1_7 st1_8 st1_9 st1_10 st1_11)

variable {F : FTy → Type} [FloatOps F]

local notation "𝕄" => MT nD τ sig Unit (Elt F) ℕ (UR sig nD τ) ℕ

/-! ## The first kernel's scratch does not carry over -/

/-- Two halves put over a buffer leave nothing of what was there. -/
theorem put_halves {α : Type} (x x' : S2x64x512.Idx → α) (w w' : ((a : Fin 3) → Fin (S1x64x512.size a)) → α) :
    VecWindow.put (VecWindow.put x ![0, 0, 0] S1x64x512.size w) ![1, 0, 0] S1x64x512.size w'
      = VecWindow.put (VecWindow.put x' ![0, 0, 0] S1x64x512.size w) ![1, 0, 0] S1x64x512.size w' := by
  funext y
  unfold VecWindow.put
  have h0 : (y 0 : ℕ) < 2 := (y 0).isLt
  have h1 : (y 1 : ℕ) < 64 := (y 1).isLt
  have h2 : (y 2 : ℕ) < 512 := (y 2).isLt
  split
  · rfl
  · rename_i hn
    split
    · rfl
    · rename_i hm
      exfalso
      by_cases h : (y 0 : ℕ) = 0
      · exact hm fun a => by fin_cases a <;> simp [S1x64x512] <;> omega
      · exact hn fun a => by fin_cases a <;> simp [S1x64x512] <;> omega

/-- Some scratch. -/
def anyScr : Scr F :=
  ⟨broadcast S2x128x512 (Scalar.ofBits .bf16 0x0000#16), broadcast S2x128x512 (Scalar.ofBits .f32 0x00000000#32), broadcast S2x64x512 (Scalar.ofBits .f32 0x00000000#32)⟩

theorem start_eq (s s' : Scr F) : setupS 1 (setupS 0 (clearS s)) = setupS 1 (setupS 0 (clearS s')) := by
  unfold setupS clearS
  rw [put_full s.b _ _ (fun a => by fin_cases a <;> rfl), put_full s'.b _ _ (fun a => by fin_cases a <;> rfl),
    put_full s.f _ _ (fun a => by fin_cases a <;> rfl), put_full s'.f _ _ (fun a => by fin_cases a <;> rfl)]
  exact congrArg _ (put_halves s.c s'.c _ _)

/-- The scratch after every step does not depend on the scratch before. -/
theorem lastS_eq (I : Ins F) (s s' : Scr F) : lastS I s = lastS I s' := by
  unfold lastS; rw [start_eq s s']

section Regions

variable (V : (c : Dev nD) → (b : Ref sig .tc) → Buf (Elt F) ((c : Thread nD τ).loc b))

/-! ## The first region -/

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The inputs of point `t`. -/
def ins0 (c : Dev nD) (t : Fin cfg0.N) : Ins F := ⟨iblk0 V c 0 t, iblk0 V c 1 t, iblk0 V c 2 t, iblk0 V c 3 t, iblk0 V c 4 t⟩

/-- The output of point `t`. -/
def out0 (c : Dev nD) (t : Fin cfg0.N) : Vec F S1x16x64 .f32 := sumS (ins0 V c t) (lastS (ins0 V c t) anyScr)

/-- What the launch is told of the first region. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 V c t
  Φ _ := Pipeline.ΦA spec0 c
  q _ := fullShare
  owed _ := 0

theorem A_eq0 (c : Dev nD) (w : Fin cfg0.W) : (dat0 V c).A w = V c (Pipeline.arrRef spec0 w) := by dsimp only [dat0]

theorem after0_5 (c : Dev nD) (t : Fin cfg0.N) : (dat0 V c).after 5 t = out0 V c t := by dsimp only [dat0]

/-- Each input's buffer holds its block. -/
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d

/-- The first kernel's buffers at point `t`. -/
abbrev mems0 (t : Fin cfg0.N) : Mems :=
  ⟨st0_0 t, st0_1 t, st0_2 t, st0_3 t, st0_4 t, st0_5 t, Memref.whole cc0_scratch0, Memref.whole cc0_scratch1, Memref.whole cc0_scratch2, Memref.isWhole_whole _⟩

/-- The body at a point, as the program of the first kernel's structure. -/
theorem bodyAt0_eq (t : Fin cfg0.N) : bodyAt0 (F := F) t = body (mems0 t) := by
  unfold bodyAt0
  exact neighbors_eq (mems0 t) _ _ _ _ _ _ _ _ _

set_option maxHeartbeats 1600000 in
/-- The body's triple at a point. -/
theorem sound_body0 (c : Dev nD) (t : Fin cfg0.N) :
    iprop((Pipeline.ΦA spec0 c : sProp 𝕄) ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d)))
    ⊢ wp frame (wpE (defs₀ (F := F)) Variants.none c none) Set.univ (bodyAt0 t) (fun _ =>
      iprop((Pipeline.ΦA spec0 c : sProp 𝕄) ∗ (dat0 V c).owesAt () t.castSucc
        ∗ owns (c : Thread nD τ) (st0_0 t) fullShare (iblk0 V c 0 t)
        ∗ owns (c : Thread nD τ) (st0_1 t) fullShare (iblk0 V c 1 t)
        ∗ owns (c : Thread nD τ) (st0_2 t) fullShare (iblk0 V c 2 t)
        ∗ owns (c : Thread nD τ) (st0_3 t) fullShare (iblk0 V c 3 t)
        ∗ owns (c : Thread nD τ) (st0_4 t) fullShare (iblk0 V c 4 t)
        ∗ owns (c : Thread nD τ) (st0_5 t) fullShare (out0 V c t))) := by
  rw [bodyAt0_eq]
  simp only [before0_0, before0_1, before0_2, before0_3, before0_4]
  unfold Pipeline.ΦA
  rw [scopedRest0_eq]
  iintro ⟨⟨⟨⟨%b, HB⟩, ⟨%f, HF⟩, ⟨%k, HK⟩, Hr⟩, Hg⟩, Ho, ⟨%d0, H0⟩, ⟨%d1, H1⟩, ⟨%d2, H2⟩, ⟨%d3, H3⟩, ⟨%d4, H4⟩, ⟨%d5, H5⟩⟩
  iapply (wp_body (ins0 V c t) c (mems0 t) ⟨b, f, k⟩)
  isplitl [H0 H1 H2 H3 H4 H5 HB HF HK]
  · unfold St
    isplitl [H0]; · iexact H0
    isplitl [H1]; · iexact H1
    isplitl [H2]; · iexact H2
    isplitl [H3]; · iexact H3
    isplitl [H4]; · iexact H4
    isplitl [H5]; · iexists _; iexact H5
    rw [owns_whole, owns_whole, owns_whole]
    isplitl [HB]; · iexact HB
    isplitl [HF]; · iexact HF
    iexact HK
  rw [lastS_eq _ _ anyScr]
  unfold Done
  simp only [owns_whole]
  iintro ⟨H0, H1, H2, H3, H4, H5, ⟨%b, HB⟩, ⟨%f, HF⟩, ⟨%k, HK⟩⟩
  isplitl [HB HF HK Hr Hg]
  · isplitl [HB HF HK Hr]
    · isplitl [HB]; · iexists b; iexact HB
      isplitl [HF]; · iexists f; iexact HF
      isplitl [HK]; · iexists k; iexact HK
      iexact Hr
    iexact Hg
  isplitl [Ho]; · iexact Ho
  isplitl [H0]; · iexact H0
  isplitl [H1]; · iexact H1
  isplitl [H2]; · iexact H2
  isplitl [H3]; · iexact H3
  isplitl [H4]; · iexact H4
  iexact H5

theorem row0 (t : Fin cfg0.N) : defs₀ (F := F) .tc cfg0.body (cfg0.bodyArgs t (cfg0.slots t)) = bodyAt0 t := by
  unfold defs₀; rw [Defs.onTc_tc]

set_option maxHeartbeats 1600000 in
/-- The first region's body obligation. -/
theorem obligation0 (c : Dev nD) : BodyObligation (dat0 (F := F) V c) (defs₀ (F := F)) Variants.none () Set.univ := fun t => by
  rw [bigSep_W0, bigSep_W0, row0]
  exact triple_restated (sound_body0 V c t) rfl .rfl fun _ => .rfl

/-! ## The second region -/

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The inputs. -/
def ins1 (c : Dev nD) (t : Fin cfg1.N) : Fin1.Ins F :=
  ⟨iblk1 V c 0 t, iblk1 V c 1 t, iblk1 V c 2 t, iblk1 V c 3 t, iblk1 V c 4 t, iblk1 V c 5 t, iblk1 V c 6 t, iblk1 V c 7 t, iblk1 V c 8 t, iblk1 V c 9 t, iblk1 V c 10 t⟩

/-- What the launch is told of the second region. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => Fin1.outS (ins1 V c t)
  Φ _ := Pipeline.ΦA spec1 c
  q _ := fullShare
  owed _ := 0

theorem A_eq1 (c : Dev nD) (w : Fin cfg1.W) : (dat1 V c).A w = V c (Pipeline.arrRef spec1 w) := by dsimp only [dat1]

theorem after1_11 (c : Dev nD) (t : Fin cfg1.N) : (dat1 V c).after 11 t = Fin1.outS (ins1 V c t) := by dsimp only [dat1]

/-- Each input's buffer holds its block. -/
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d
theorem before1_6 (c : Dev nD) (t : Fin cfg1.N) (d) : (dat1 V c).before 6 t d = iblk1 V c 6 t :=
  (dat1 V c).before_in_eq_fetched 6 rfl (fun _ => rfl) (fun _ _ _ => rfl) (fun _ => rfl) t d
theorem before1_7 (c : Dev nD) (t : Fin cfg1.N) (d) : (dat1 V c).before 7 t d = iblk1 V c 7 t :=
  (dat1 V c).before_in_eq_fetched 7 rfl (fun _ => rfl) (fun _ _ _ => rfl) (fun _ => rfl) t d
theorem before1_8 (c : Dev nD) (t : Fin cfg1.N) (d) : (dat1 V c).before 8 t d = iblk1 V c 8 t :=
  (dat1 V c).before_in_eq_fetched 8 rfl (fun _ => rfl) (fun _ _ _ => rfl) (fun _ => rfl) t d
theorem before1_9 (c : Dev nD) (t : Fin cfg1.N) (d) : (dat1 V c).before 9 t d = iblk1 V c 9 t :=
  (dat1 V c).before_in_eq_fetched 9 rfl (fun _ => rfl) (fun _ _ _ => rfl) (fun _ => rfl) t d
theorem before1_10 (c : Dev nD) (t : Fin cfg1.N) (d) : (dat1 V c).before 10 t d = iblk1 V c 10 t :=
  (dat1 V c).before_in_eq_fetched 10 rfl (fun _ => rfl) (fun _ _ _ => rfl) (fun _ => rfl) t d

/-- The second kernel's buffers. -/
abbrev mems1 (t : Fin cfg1.N) : Fin1.Mems :=
  ⟨st1_0 t, st1_1 t, st1_2 t, st1_3 t, st1_4 t, st1_5 t, st1_6 t, st1_7 t, st1_8 t, st1_9 t, st1_10 t, st1_11 t⟩

/-- The body, as the program of the second kernel's structure. -/
theorem bodyAt1_eq (t : Fin cfg1.N) : bodyAt1 (F := F) t = Fin1.body (mems1 t) := by
  unfold bodyAt1
  exact Fin1.finish_eq (mems1 t) _ _ _ _ _ _ _ _ _ _ _ _

set_option maxHeartbeats 1600000 in
/-- The body's triple. -/
theorem sound_body1 (c : Dev nD) (t : Fin cfg1.N) :
    iprop((Pipeline.ΦA spec1 c : sProp 𝕄) ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d))
      ∗ (∃ d, owns (c : Thread nD τ) (st1_6 t) fullShare ((dat1 V c).before 6 t d))
      ∗ (∃ d, owns (c : Thread nD τ) (st1_7 t) fullShare ((dat1 V c).before 7 t d))
      ∗ (∃ d, owns (c : Thread nD τ) (st1_8 t) fullShare ((dat1 V c).before 8 t d))
      ∗ (∃ d, owns (c : Thread nD τ) (st1_9 t) fullShare ((dat1 V c).before 9 t d))
      ∗ (∃ d, owns (c : Thread nD τ) (st1_10 t) fullShare ((dat1 V c).before 10 t d))
      ∗ (∃ d, owns (c : Thread nD τ) (st1_11 t) fullShare ((dat1 V c).before 11 t d)))
    ⊢ wp frame (wpE (defs₀ (F := F)) Variants.none c none) Set.univ (bodyAt1 t) (fun _ =>
      iprop((Pipeline.ΦA spec1 c : sProp 𝕄) ∗ (dat1 V c).owesAt () t.castSucc
        ∗ owns (c : Thread nD τ) (st1_0 t) fullShare (iblk1 V c 0 t)
        ∗ owns (c : Thread nD τ) (st1_1 t) fullShare (iblk1 V c 1 t)
        ∗ owns (c : Thread nD τ) (st1_2 t) fullShare (iblk1 V c 2 t)
        ∗ owns (c : Thread nD τ) (st1_3 t) fullShare (iblk1 V c 3 t)
        ∗ owns (c : Thread nD τ) (st1_4 t) fullShare (iblk1 V c 4 t)
        ∗ owns (c : Thread nD τ) (st1_5 t) fullShare (iblk1 V c 5 t)
        ∗ owns (c : Thread nD τ) (st1_6 t) fullShare (iblk1 V c 6 t)
        ∗ owns (c : Thread nD τ) (st1_7 t) fullShare (iblk1 V c 7 t)
        ∗ owns (c : Thread nD τ) (st1_8 t) fullShare (iblk1 V c 8 t)
        ∗ owns (c : Thread nD τ) (st1_9 t) fullShare (iblk1 V c 9 t)
        ∗ owns (c : Thread nD τ) (st1_10 t) fullShare (iblk1 V c 10 t)
        ∗ owns (c : Thread nD τ) (st1_11 t) fullShare (Fin1.outS (ins1 V c t)))) := by
  rw [bodyAt1_eq]
  simp only [before1_0, before1_1, before1_2, before1_3, before1_4, before1_5, before1_6, before1_7, before1_8, before1_9, before1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (Fin1.wp_finishBody (mems1 t) (ins1 V c t) c)
  unfold Fin1.Held
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexists _; iexact H11
  iintro ⟨⟨H0, H1, H2, H3, H4, H5, H6, H7, H8, H9, H10⟩, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem row1 (t : Fin cfg1.N) : defs₀ (F := F) .tc cfg1.body (cfg1.bodyArgs t (cfg1.slots t)) = bodyAt1 t := by
  unfold defs₀; rw [Defs.onTc_tc]

set_option maxHeartbeats 1600000 in
/-- The second region's body obligation. -/
theorem obligation1 (c : Dev nD) : BodyObligation (dat1 (F := F) V c) (defs₀ (F := F)) Variants.none () Set.univ := fun t => by
  rw [bigSep_W1, bigSep_W1, row1]
  exact triple_restated (sound_body1 V c t) rfl .rfl fun _ => .rfl

end Regions

end Cert.KernelIdeal.Hand
-- ==== Proof.KernelIdeal.Run.lean ====
/-
  The launch: the program run from any memory ends, with every counter at zero, its arguments as they
  were and its result the second region's output. The set-up of a launch of several regions, over the
  bodies' obligations of RegionBodies.lean.
-/
module

public import proofs.«01_k».proof.Proof.KernelIdeal.RegionBodies
public import proofs.«01_k».proof.Proof.Gen.KernelIdeal.Regions

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the items -/

/-- At the first region's entry. -/
abbrev E0 (c : Dev nD) (b : Ref sig .tc) : Buf (Elt F) ((c : Thread nD τ).loc b) := Gen.V5 m c b

/-- What the first region leaves in its output. -/
def left0 (c : Dev nD) : Buf (Elt F) ((c : Thread nD τ).loc main_v26) := (dat0 (E0 m) c).arrAt 5 cfg0.N

/-- The regions' outputs, the first one's known. -/
def outsA : Gen.Outs (F := F) := fun _ r c => Function.update (Gen.V5 m c) main_v26 (left0 m c) r

/-- At the second region's entry. -/
abbrev E1 (c : Dev nD) (b : Ref sig .tc) : Buf (Elt F) ((c : Thread nD τ).loc b) := Gen.V7 m (outsA m) c b

/-- What the second region leaves in its output. -/
def left1 (c : Dev nD) : Buf (Elt F) ((c : Thread nD τ).loc main_v34) := (dat1 (E1 m) c).arrAt 11 cfg1.N

/-- The regions' outputs. -/
def outs : Gen.Outs (F := F) := fun j r c => if j = 6 then outsA m j r c else Function.update (Gen.V5 m c) main_v34 (left1 m c) r

theorem outs_first (c : Dev nD) : outs m 6 main_v26 c = left0 m c := by
  unfold outs outsA; rw [if_pos rfl]; exact Function.update_self ..

theorem outs_second (c : Dev nD) : outs m 8 main_v34 c = left1 m c := by
  unfold outs; rw [if_neg (by decide)]; exact Function.update_self ..

theorem V6_eq (c : Dev nD) : Gen.V6 m (outs m) c = Gen.V6 m (outsA m) c := by
  unfold Gen.V6; rw [outs_first]; unfold outsA; rw [Function.update_self]

theorem V7_eq (c : Dev nD) : Gen.V7 m (outs m) c = Gen.V7 m (outsA m) c := by
  unfold Gen.V7; rw [V6_eq]

theorem V6_out (c : Dev nD) : Gen.V6 m (outs m) c main_v26 = left0 m c := by
  unfold Gen.V6; rw [Function.update_self, outs_first]

theorem V8_out (c : Dev nD) : Gen.V8 m (outs m) c main_v34 = left1 m c := by
  unfold Gen.V8; rw [Function.update_self, outs_second]

/-- The buffers after the first region, at the region's arrays and elsewhere. -/
theorem exit0 (c : Dev nD) (w : Fin cfg0.W) :
    (dat0 (E0 m) c).arrAt w cfg0.N = (fun b : Ref sig .tc => Gen.V6 m (outs m) c b) (Pipeline.arrRef spec0 w) := by
  by_cases hw : w = 5
  · subst hw
    exact (V6_out m c).symm
  · have hne : Pipeline.arrRef spec0 w ∉ ([main_v26] : List (Ref sig .tc)) := by revert w; decide
    have hin : (cfg0.win w).isOut = false := by clear hne; revert w; decide
    rw [(dat0 (E0 m) c).arrAt_in w hin, A_eq0]
    exact (Gen.V6_of m (outs m) c _ hne).symm

theorem rest0 (c : Dev nD) (b : Ref sig .tc) (hb : b ∉ Finset.univ.image (Pipeline.arrRef spec0)) :
    (fun b : Ref sig .tc => Gen.V6 m (outs m) c b) b = E0 m c b :=
  Gen.V6_of m (outs m) c b fun h => hb (by
    rw [List.mem_singleton] at h; subst h; exact Finset.mem_image.mpr ⟨5, Finset.mem_univ _, rfl⟩)

/-- The buffers after the second region, at the region's arrays and elsewhere. -/
theorem exit1 (c : Dev nD) (w : Fin cfg1.W) :
    (dat1 (E1 m) c).arrAt w cfg1.N = (fun b : Ref sig .tc => Gen.V8 m (outs m) c b) (Pipeline.arrRef spec1 w) := by
  by_cases hw : w = 11
  · subst hw
    exact (V8_out m c).symm
  · have hne : Pipeline.arrRef spec1 w ∉ ([main_v34] : List (Ref sig .tc)) := by revert w; decide
    have hin : (cfg1.win w).isOut = false := by clear hne; revert w; decide
    rw [(dat1 (E1 m) c).arrAt_in w hin, A_eq1]
    refine Eq.trans ?_ (Gen.V8_of m (outs m) c _ hne).symm
    exact (congrFun (V7_eq m c) _).symm

theorem rest1 (c : Dev nD) (b : Ref sig .tc) (hb : b ∉ Finset.univ.image (Pipeline.arrRef spec1)) :
    (fun b : Ref sig .tc => Gen.V8 m (outs m) c b) b = E1 m c b :=
  (Gen.V8_of m (outs m) c b fun h => hb (by
    rw [List.mem_singleton] at h; subst h; exact Finset.mem_image.mpr ⟨11, Finset.mem_univ _, rfl⟩)).trans (congrFun (V7_eq m c) _)

/-! ## The regions as segments -/

/-- Every region's data. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

/-- No level is assigned. -/
abbrev L : GSem nD τ sig → Finset Unit := fun _ => ∅
abbrev lv : GSem nD τ sig → Unit → ℕ := fun _ _ => 0

/-- What goes along beside the buffers. -/
abbrev R (c : Dev nD) : sProp 𝕄 := iprop((∃ r, prngReg c r) ∗ ∃ W, owes (c : Thread nD τ) (0 : CellTallies nD τ sig Unit) W)

/-- The last state of a core, but for what it owes. -/
abbrev Tₙ (c : Dev nD) : sProp 𝕄 := iprop(StableHlo.held (c : Thread nD τ) (Pipeline.ucRefs τ sig) (Gen.V8 m (outs m) c) ∗ ∃ r, prngReg c r)

set_option backward.isDefEq.respectTransparency.types false in
/-- The first region. -/
def reg0 : Pipeline.RegionSeg (pcfgs (F := F)) Gen.adm (pdats m) () defs₀ Variants.none L lv 0 where
  win := Gen.launch0.win.to₀
  block_pos := Gen.launch0.block_pos
  stage_whole := Gen.launch0.stage_whole
  K := PEmpty
  osem k := k.elim
  ho := Pipeline.OwnSemFacts.none _
  hbody c := (obligation0 (E0 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) Gen.launch0.win Gen.launch0.arr_whole c
      ((pdats m 0 c).share_full fun _ => rfl) (E0 m c) (A_eq0 (E0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (E0 m c) (fun b => Gen.V6 m (outs m) c b) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region. -/
def reg1 : Pipeline.RegionSeg (pcfgs (F := F)) Gen.adm (pdats m) () defs₀ Variants.none L lv 1 where
  win := Gen.launch1.win.to₀
  block_pos := Gen.launch1.block_pos
  stage_whole := Gen.launch1.stage_whole
  K := PEmpty
  osem k := k.elim
  ho := Pipeline.OwnSemFacts.none _
  hbody c := (obligation1 (E1 m) c).loose
  hwaits := Pipeline.hwaits_of_owed_zero _ _ _ _ L lv 1 fun _ _ => rfl
  pre c := iprop(StableHlo.held (c : Thread nD τ) (Pipeline.ucRefs τ sig) (Gen.V7 m (outsA m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) Gen.adm (pdats m) Gen.launch1.win Gen.launch1.arr_whole c
      ((pdats m 1 c).share_full fun _ => rfl) (E1 m c) (A_eq1 (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      Gen.launch1.win Gen.launch1.arr_whole c (pdats m) ((pdats m 1 c).share_full fun _ => rfl)
      (E1 m c) (fun b => Gen.V8 m (outs m) c b) ((pdats m 1 c).arrAt · cfg1.N) (exit1 m c) (rest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- What goes along, at each region's side. -/
abbrev along : Fin 3 → Dev nD → sProp 𝕄 := fun _ => R

/-- The items of the program. -/
abbrev segs : List (Pipeline.Seg (pcfgs (F := F)) Gen.adm (pdats m) () defs₀ Variants.none L lv) :=
  [.host (Gen.seg0 m Variants.none L lv along), .host (Gen.seg1 m Variants.none L lv along), .host (Gen.seg2 m Variants.none L lv along),
   .host (Gen.seg3 m Variants.none L lv along), .host (Gen.seg4 m Variants.none L lv along), .region (reg0 m),
   .host (Gen.seg6 m (outs m) Variants.none L lv along), .region (reg1 m)]

/-- The program is the run of its items. -/
theorem main_run (c : Dev nD) : main (F := F) c = Pipeline.Seg.run (segs m) := (Gen.main_chain c).trans (by chain_rfl)

/-- A buffer that is not scoped is among those the launch holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The run: the arguments as launched, the result the second region's, every counter at zero. -/
theorem run : θ_run defs (onTc (τ := τ) (main (F := F))) ⟨m, fun _ => 0, ρ⟩ (fun r => (∀ c : Dev nD,
      (∀ b ∈ Pipeline.ucRefs τ sig, r.2.mem (((c : Thread nD τ)).1, b) = Gen.V8 m (outs m) c b)) ∧ r.2.sem = fun _ => 0) :=
  Pipeline.θ_run_regions_kit_sems (pcfgs (F := F)) Gen.adm (pdats m) () Gen.cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (Gen.V7 m (outs m) c) ∗ R c) ⊢ iprop(StableHlo.held (c : Thread nD τ) (Pipeline.ucRefs τ sig) (Gen.V7 m (outsA m) c) ∗ R c)
        rw [V7_eq], fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun s h hz => ⟨h, funext fun g => hz g (.inr (Gen.regions_no_unscoped g.2))⟩)

/-- That the arguments end as launched and every counter at zero. -/
def FrameAt : Prop := θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0)

theorem frame : FrameAt m ρ :=
  (θ_run defs _ _).mono (fun _ h => ⟨fun c =>
    ⟨(h.1 c _ (mem_uc main_arg0 (by decide))).trans (Gen.V8_main_arg0 m (outs m) c),
     (h.1 c _ (mem_uc main_arg1 (by decide))).trans (Gen.V8_main_arg1 m (outs m) c),
     (h.1 c _ (mem_uc main_arg2 (by decide))).trans (Gen.V8_main_arg2 m (outs m) c),
     (h.1 c _ (mem_uc main_arg3 (by decide))).trans (Gen.V8_main_arg3 m (outs m) c),
     (h.1 c _ (mem_uc main_arg4 (by decide))).trans (Gen.V8_main_arg4 m (outs m) c),
     (h.1 c _ (mem_uc main_arg5 (by decide))).trans (Gen.V8_main_arg5 m (outs m) c),
     (h.1 c _ (mem_uc main_arg6 (by decide))).trans (Gen.V8_main_arg6 m (outs m) c),
     (h.1 c _ (mem_uc main_arg7 (by decide))).trans (Gen.V8_main_arg7 m (outs m) c),
     (h.1 c _ (mem_uc main_arg8 (by decide))).trans (Gen.V8_main_arg8 m (outs m) c),
     (h.1 c _ (mem_uc main_arg9 (by decide))).trans (Gen.V8_main_arg9 m (outs m) c),
     (h.1 c _ (mem_uc main_arg10 (by decide))).trans (Gen.V8_main_arg10 m (outs m) c),
     (h.1 c _ (mem_uc main_arg11 (by decide))).trans (Gen.V8_main_arg11 m (outs m) c),
     (h.1 c _ (mem_uc main_arg12 (by decide))).trans (Gen.V8_main_arg12 m (outs m) c)⟩, h.2⟩) (run m ρ)

/-- The result ends as the second region leaves it. -/
theorem run_result : θ_run defs (onTc (τ := τ) (main (F := F))) ⟨m, fun _ => 0, ρ⟩ (fun r => ∀ c : Dev nD,
      r.2.mem ((c.tc : Thread nD τ).loc main_v34) = left1 m c) :=
  (θ_run defs _ _).mono (fun _ h c =>
    (h.1 c _ (mem_uc main_v34 (by decide))).trans (V8_out m c)) (run m ρ)

end Cert.KernelIdeal.Hand
-- ==== Proof.Twin.lean ====
/-
  The two printings of the kernel are one program, so what is proved of the one at any float semantics
  holds of the other.
-/
module

public import proofs.«01_k».proof.Proof.KernelIdeal.Run
public import proofs.«01_k».proof.Proof.Gen.Kernel
public import proofs.«01_k».proof.Defs

@[expose] public section

noncomputable section

namespace Cert.Twin

open Idealize.ShloMosaic Idealize.ShloMosaic.Tactic

/-- The two frames say one thing. -/
theorem same : (∀ (m : (ℓ : Loc Cert.KernelIdeal.nD Cert.KernelIdeal.τ Cert.KernelIdeal.sig) → Buf (Elt Bits) ℓ) (g : Dev Cert.KernelIdeal.nD → PrngReg), True →
      Cert.KernelIdeal.Hand.FrameAt (F := Bits) m g) = Cert.quiescent_Kernel (hKernel := Cert.Kernel.Gen.facts) := by
  chain_rfl

/-- The frame of the machine's kernel. -/
theorem frame : Cert.quiescent_Kernel (hKernel := Cert.Kernel.Gen.facts) :=
  same.mp fun m ρ _ => Cert.KernelIdeal.Hand.frame (F := Bits) m ρ

end Cert.Twin
-- ==== Proof.ReferenceFrame.lean ====
/-
  The reference's frame. The reference declares no semaphore, so there is no counter that could end
  anywhere but at zero; that its arguments end unchanged is part of its run.
-/
module

public import proofs.«01_k».proof.Proof.Gen.ReferenceIdeal.Run
public import proofs.«01_k».proof.Proof.Gen.ReferenceIdeal
public import proofs.«01_k».proof.Defs
public import Idealize.ShloMosaic.Lib.Quiescent

@[expose] public section

noncomputable section

namespace Cert.RefFrame

open Idealize.ShloMosaic Idealize.SL.Sem

/-- The frame of the reference. -/
theorem frame : Cert.quiescent_ReferenceIdeal (hReferenceIdeal := Cert.ReferenceIdeal.Gen.facts) :=
  fun m ρ _ => (θ_run _ _ _).mono
    (fun r h => ⟨fun c => (h c).2, sem_eq_zero_of_no_sems (sig := Cert.ReferenceIdeal.sig) (by decide) r.2⟩)
    (Cert.ReferenceIdeal.Value.run (F := Ideal) m ρ)

end Cert.RefFrame

end
-- ==== Proof.Value.Arrays.lean ====
/-
  What the kernel's host lines put in the arrays the two regions read.
-/
module

public import proofs.«01_k».proof.Proof.KernelIdeal.Run
public import Idealize.ShloMosaic.Lib.Pointwise
public import Idealize.ShloMosaic.Lib.Claim
public import Idealize.ShloMosaic.Lib.StableHlo.RunRead

@[expose] public section

set_option maxRecDepth 16384

noncomputable section

namespace Cert.Value.Arrays

open Idealize.ShloMosaic Idealize.ShloMosaic.TcCoe Idealize.ShloMosaic.Tactic
open Idealize.ShloMosaic.StableHlo
open Cert.KernelIdeal
open Facts₀ Facts

variable (m : (ℓ : Loc nD τ Cert.KernelIdeal.sig) → Buf (Elt Ideal) ℓ) (c : Dev nD)

/-- The neighbours' positions, padded, the neighbours last. -/
theorem positions : Gen.V5 m c main_v1 = (transpose S15x2x50176 [0, 2, 1] (pad S15x50176x2 ![0, 0, 0] ![0, 176, 0] ![0, 0, 0] (m ((c : Thread nD τ).loc main_arg1)) (sitofp .f32 (constantI S_ 32 0#32) : FVec Ideal S_ .f32) pads_S15x50000x2_S15x50176x2_000_01760_000 h_S_) transposes_S15x50176x2_S15x2x50176_0_2_1 : FVec Ideal S15x2x50176 .f32) := by
  rw [Gen.V5_of m c _ (by decide), Gen.V4_of m c _ (by decide)]
  after_reads_simp
  rfl

/-- The last mask row, padded. -/
theorem mask : Gen.V5 m c main_v3 = (pad S1x50176 ![0, 0] ![0, 176] ![0, 0] (extractStridedSlice S1x50000 ![14, 0] (m ((c : Thread nD τ).loc main_arg2)) slices_S15x50000_S1x50000_14_0) (constantI S_ 32 0#32) pads_S1x50000_S1x50176_000_01760 h_S_ : IVec S1x50176 32) := by
  rw [Gen.V5_of m c _ (by decide)]
  after_reads_simp
  rfl

/-- The target's last position. -/
theorem target : Gen.V5 m c main_v5 = (extractStridedSlice S1x2 ![14, 0] (shapeCast S15x2 (m ((c : Thread nD τ).loc main_arg0)) shapeCasts_S15x1x2_S15x2) slices_S15x2_S1x2_14_0 : FVec Ideal S1x2 .f32) := by
  after_reads_simp
  rfl

/-- The biases' sum. -/
theorem bias : Gen.V5 m c main_v7 = (shapeCast S1x256 (addf (m ((c : Thread nD τ).loc main_arg4)) (m ((c : Thread nD τ).loc main_arg6)) : FVec Ideal S256 .f32) shapeCasts_S256_S1x256 : FVec Ideal S1x256 .f32) := by
  after_reads_simp
  rfl

/-- The target's track. -/
theorem track : Gen.V5 m c main_v22 = (shapeCast S15x1x2 (shapeCast S15x2 (m ((c : Thread nD τ).loc main_arg0)) shapeCasts_S15x1x2_S15x2) shapeCasts_S15x2_S15x1x2 : FVec Ideal S15x1x2 .f32) := by
  after_reads_simp
  rfl

/-- The first layer's weights, cell by cell. -/
theorem first : Gen.V5 m c main_v24 = (shapeCast S16x64x64 (transpose S1024x64 [1, 0] (m ((c : Thread nD τ).loc main_arg7)) transposes_S64x1024_S1024x64_1_0) shapeCasts_S1024x64_S16x64x64 : FVec Ideal S16x64x64 .f32) := by
  after_reads_simp
  rfl

/-- The scales of the stacked weights' rows. -/
def scales : FVec Ideal S256x128 .f32 :=
  broadcastInDim S256x128 ![0, 1] bcast_S256x1_S256x128_0_1 (concatenate S256x1 0 [⟨S128x1, (broadcastInDim S128x1 ![] bcast_S_S128x1 (constant S_ .f32 0x3F000000#32) : FVec Ideal S128x1 .f32)⟩, ⟨S64x1, (broadcastInDim S64x1 ![] bcast_S_S64x1 (constant S_ .f32 0x3F800000#32) : FVec Ideal S64x1 .f32)⟩, ⟨S64x1, (broadcastInDim S64x1 ![] bcast_S_S64x1 (constant S_ .f32 0x3F000000#32) : FVec Ideal S64x1 .f32)⟩] concatenates_S128x1_S64x1_S64x1_S256x1_d0)

/-- The input weights in columns 0 and 1, the rest zero. -/
def stack0 (wi : FVec Ideal S256x2 .f32) : FVec Ideal S256x128 .f32 :=
  Host.scatter scatter_S256x128_S1_S256x2_01_n_1_0 (fun _ b => b) (broadcastInDim S256x128 ![] bcast_S_S256x128 (constant S_ .f32 0x00000000#32) : FVec Ideal S256x128 .f32) (broadcastInDim S1 ![] bcast_S_S1 (constantI S_ 32 0#32)) wi

/-- The biases' sum in column 2. -/
def stack1 (x : FVec Ideal S256x128 .f32) (b : FVec Ideal S256 .f32) : FVec Ideal S256x128 .f32 :=
  Host.scatter scatter_S256x128_S1_S256_0_1_1_0 (fun _ b => b) x (broadcastInDim S1 ![] bcast_S_S1 (constantI S_ 32 2#32)) b

/-- The hidden weights in columns 64 on. -/
def stack2 (x : FVec Ideal S256x128 .f32) (wh : FVec Ideal S256x64 .f32) : FVec Ideal S256x128 .f32 :=
  Host.scatter scatter_S256x128_S1_S256x64_01_n_1_0 (fun _ b => b) x (broadcastInDim S1 ![] bcast_S_S1 (constantI S_ 32 64#32)) wh

/-- The stacked weights. -/
def stacked (wi : FVec Ideal S256x2 .f32) (bi : FVec Ideal S256 .f32) (wh : FVec Ideal S256x64 .f32) (bh : FVec Ideal S256 .f32) : FVec Ideal S256x128 .f32 :=
  mulf (stack2 (stack1 (stack0 wi) (addf bi bh)) wh) scales

/-- The stacked weights, one format. -/
theorem weights : Gen.V5 m c main_v21 = stacked (m ((c : Thread nD τ).loc main_arg3)) (m ((c : Thread nD τ).loc main_arg4)) (m ((c : Thread nD τ).loc main_arg5)) (m ((c : Thread nD τ).loc main_arg6)) := by
  after_reads_simp
  rfl

/-- The stacked weights, the other format. -/
theorem weights' : Gen.V5 m c main_v25 = stacked (m ((c : Thread nD τ).loc main_arg3)) (m ((c : Thread nD τ).loc main_arg4)) (m ((c : Thread nD τ).loc main_arg5)) (m ((c : Thread nD τ).loc main_arg6)) := by
  after_reads_simp
  rfl

end Cert.Value.Arrays

end
-- ==== Proof.Maths.Spec.lean ====
/-
  The social LSTM in plain mathematics, over the extended reals: the recurrent cell, the fifteen steps of
  it, the sum of the neighbours' last states into sixteen cells around the target, and the two layers and
  the read-out that follow. Both programs are shown to compute `out`.
-/
module

public import Idealize.ShloMosaic.PureOps.Ideal.Laws
public import Idealize.ShloMosaic.Lib.IdealHost

@[expose] public section

noncomputable section

namespace Cert.Maths

open Idealize.ShloMosaic

/-! ## The recurrent cell -/

/-- The cell's weights: for each of the 256 gate rows, the input's, the state's, and two biases. -/
structure Weights where
  wi : Fin 256 → Fin 2 → EReal
  bi : Fin 256 → EReal
  wh : Fin 256 → Fin 64 → EReal
  bh : Fin 256 → EReal

/-- The logistic function. -/
def sig (x : EReal) : EReal := Ideal.div 1 (1 + Ideal.exp (-x))

/-- One gate row's value before its nonlinearity. -/
def gate (W : Weights) (x : Fin 2 → EReal) (h : Fin 64 → EReal) (r : Fin 256) : EReal :=
  (∑ k, x k * W.wi r k) + W.bi r + (∑ k, h k * W.wh r k) + W.bh r

/-- Row `j` of the gate that starts at row `o`. -/
def row (o : ℕ) (ho : o ≤ 192) (j : Fin 64) : Fin 256 := ⟨o + j.val, by have := j.isLt; omega⟩

/-- The next cell state, of a function `G` that gives each gate row. -/
def nextC (G : Fin 256 → EReal) (c : Fin 64 → EReal) (j : Fin 64) : EReal :=
  sig (G (row 64 (by omega) j)) * c j + sig (G (row 0 (by omega) j)) * Ideal.tanh (G (row 128 (by omega) j))

/-- The next hidden state. -/
def nextH (G : Fin 256 → EReal) (c : Fin 64 → EReal) (j : Fin 64) : EReal :=
  sig (G (row 192 (by omega) j)) * Ideal.tanh (nextC G c j)

/-- Hidden and cell state. -/
abbrev State := (Fin 64 → EReal) × (Fin 64 → EReal)

/-- One step from the input `x`. -/
def cell (W : Weights) (x : Fin 2 → EReal) (s : State) : State :=
  (nextH (gate W x s.1) s.2, nextC (gate W x s.1) s.2)

/-- The state after `n` steps from zero, step `t` taking the input `x t`. -/
def state (W : Weights) (x : ℕ → Fin 2 → EReal) : ℕ → State
  | 0 => (fun _ => 0, fun _ => 0)
  | n + 1 => cell W (x n) (state W x n)

/-! ## Which cell of the grid a neighbour is in -/

/-- A distance in cells, cut to a whole number and counted from two cells before the target. -/
def cellOf (r : EReal) : BitVec 32 :=
  IntOp.addi (FloatOps.fptosi (F := Ideal) (φ := .f32) 32
    (Scalar.select (FloatOps.cmpf (F := Ideal) (φ := .f32) .olt r (0 : EReal)) (Ideal.liftRound Int.ceil r) (Ideal.liftRound Int.floor r))) 2#32

/-- Whether a neighbour counts: near enough, its cell one of the sixteen, its mask on. -/
def counts (rx ry : EReal) (mk : BitVec 32) : BitVec 1 :=
  IntOp.andi (IntOp.andi (IntOp.andi (IntOp.andi (IntOp.andi (IntOp.andi
    (FloatOps.cmpf (F := Ideal) (φ := .f32) .ole (FloatOps.absf (F := Ideal) (φ := .f32) rx) (Ideal.ofBits .f32 0x40000000#32))
    (FloatOps.cmpf (F := Ideal) (φ := .f32) .ole (FloatOps.absf (F := Ideal) (φ := .f32) ry) (Ideal.ofBits .f32 0x40000000#32)))
    (IntOp.cmpi .sge (cellOf rx) 0#32)) (IntOp.cmpi .slt (cellOf rx) 4#32))
    (IntOp.cmpi .sge (cellOf ry) 0#32)) (IntOp.cmpi .slt (cellOf ry) 4#32))
    (IntOp.cmpi .ne mk 0#32)

/-- The number of a neighbour's cell. -/
def cellNo (rx ry : EReal) : BitVec 32 := IntOp.addi (IntOp.muli (cellOf ry) 4#32) (cellOf rx)

/-- What a neighbour at distance `(rx, ry)` with mask `mk` and hidden value `v` adds to cell `q`. -/
def share (rx ry : EReal) (mk : BitVec 32) (q : ℕ) (v : EReal) : EReal :=
  if counts rx ry mk = 1#1 ∧ cellNo rx ry = BitVec.ofNat 32 q then v else 0

/-- A neighbour whose mask is off adds nothing. -/
theorem share_off (rx ry : EReal) (q : ℕ) (v : EReal) : share rx ry 0#32 q v = 0 := by
  unfold share
  rw [if_neg]
  rintro ⟨h, -⟩
  have : counts rx ry 0#32 = 0#1 := by
    unfold counts
    have h0 : IntOp.cmpi .ne (0#32) 0#32 = 0#1 := by decide
    rw [h0]
    exact BitVec.and_zero
  rw [this] at h
  exact absurd h (by decide)

/-! ## The whole -/

/-- The problem's inputs. -/
structure Inputs where
  tgt : ℕ → Fin 2 → EReal
  oth : Fin 50000 → ℕ → Fin 2 → EReal
  mask : Fin 50000 → BitVec 32
  W : Weights
  w1 : Fin 64 → Fin 1024 → EReal
  b1 : Fin 64 → EReal
  w2 : Fin 64 → Fin 64 → EReal
  b2 : Fin 64 → EReal
  wc : Fin 2 → Fin 64 → EReal
  bc : Fin 2 → EReal

variable (A : Inputs)

/-- Neighbour `n`'s share of cell `q`, hidden value `j`. -/
def part (n : Fin 50000) (q : ℕ) (j : Fin 64) : EReal :=
  share (A.oth n 14 0 - A.tgt 14 0) (A.oth n 14 1 - A.tgt 14 1) (A.mask n) q ((state A.W (A.oth n) 15).1 j)

/-- The sum over the neighbours in cell `q`. -/
def social (q : Fin 16) (j : Fin 64) : EReal := ∑ n, part A n q j

/-- Column `(q, k)` of the first layer's weights. -/
def col (q : Fin 16) (k : Fin 64) : Fin 1024 := ⟨q.val * 64 + k.val, by have := q.isLt; have := k.isLt; omega⟩

/-- The first layer, of the sixteen sums. -/
def layer1 (s : Fin 16 → Fin 64 → EReal) (j : Fin 64) : EReal :=
  max ((∑ q, ∑ k, s q k * A.w1 j (col q k)) + A.b1 j) 0

/-- The second layer. -/
def layer2 (s : Fin 16 → Fin 64 → EReal) (j : Fin 64) : EReal := (∑ k, layer1 A s k * A.w2 j k) + A.b2 j

/-- The result. -/
def out (j : Fin 2) : EReal :=
  (∑ k, ((state A.W A.tgt 15).1 k + layer2 A (social A) k) * A.wc j k) + A.bc j

end Cert.Maths

end
-- ==== Proof.Maths.Half.lean ====
/-
  Half of a sum is the sum of the halves over the extended reals, and the logistic function is the
  hyperbolic tangent of half its argument, halved and moved up by a half. Both programs' logistic
  functions meet here.
-/
module

public import proofs.«01_k».proof.Proof.Maths.Spec
public import Mathlib.Analysis.SpecialFunctions.Trigonometric.DerivHyp

@[expose] public section

noncomputable section

namespace Cert.Maths

open Idealize.ShloMosaic

/-- One half. -/
abbrev half : EReal := ((1 / 2 : ℝ) : EReal)

/-- Multiplication by one half goes into a sum. -/
theorem half_mul_add (x y : EReal) : half * (x + y) = half * x + half * y :=
  EReal.left_distrib_of_nonneg_of_ne_top (EReal.coe_nonneg.mpr (by norm_num)) (EReal.coe_ne_top _) x y

/-- The same for a sum over a finite type. -/
theorem half_mul_sum {ι : Type} (s : Finset ι) (f : ι → EReal) : half * ∑ k ∈ s, f k = ∑ k ∈ s, half * f k := by
  classical
  induction s using Finset.induction_on with
  | empty => simp
  | insert a s ha ih => rw [Finset.sum_insert ha, Finset.sum_insert ha, half_mul_add, ih]

/-- The logistic function on a real number. -/
theorem sig_coe (r : ℝ) : sig (r : EReal) = (((1 + Real.exp (-r))⁻¹ : ℝ) : EReal) := Ideal.logistic_coe r

/-- The logistic function from the hyperbolic tangent. -/
theorem half_tanh (x : EReal) : Ideal.tanh (half * x) * half + half = sig x := by
  induction x using EReal.rec with
  | bot =>
    have e : half * (⊥ : EReal) = ⊥ := EReal.coe_mul_bot_of_pos (by norm_num)
    rw [e, Ideal.tanh_bot, show sig ⊥ = 0 from Ideal.logistic_bot]
    unfold half
    rw [show (-1 : EReal) = ((-1 : ℝ) : EReal) by simp, ← EReal.coe_mul, ← EReal.coe_add]
    norm_num
  | top =>
    have e : half * (⊤ : EReal) = ⊤ := EReal.coe_mul_top_of_pos (by norm_num)
    rw [e, Ideal.tanh_top, show sig ⊤ = 1 from Ideal.logistic_top]
    unfold half
    rw [one_mul, ← EReal.coe_add]
    norm_num
  | coe r =>
    rw [sig_coe]
    unfold half
    rw [← EReal.coe_mul, Ideal.tanh_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    rw [h1]
    have p := Real.exp_pos (1 / 2 * r)
    have q := Real.exp_pos (-(1 / 2 * r))
    generalize Real.exp (1 / 2 * r) = a at *
    generalize Real.exp (-(1 / 2 * r)) = b at *
    have hb : b = 1 / a := by field_simp; linarith
    subst hb
    field_simp
    ring

/-- A bias as one number, added last. -/
theorem gate_bias (W : Weights) (x : Fin 2 → EReal) (h : Fin 64 → EReal) (r : Fin 256) :
    (∑ k, x k * W.wi r k) + (∑ k, h k * W.wh r k) + (W.bi r + W.bh r) = gate W x h r := by
  unfold gate
  abel

end Cert.Maths

end
-- ==== Proof.Value.Columns.lean ====
/-
  The pieces of the neighbours' kernel read at one neighbour: a part of the scratch written or kept, the
  product of the stacked weights with the stacked state, the next states, the share of a cell.
-/
module

public import proofs.«01_k».proof.Proof.KernelIdeal.NeighborsRun
public import proofs.«01_k».proof.Proof.Maths.Half
public import Idealize.ShloMosaic.Lib.Pointwise

@[expose] public section

noncomputable section

namespace Cert.Value.Neighbors

open Idealize.ShloMosaic
open Cert.KernelIdeal Cert.KernelIdeal.Hand Cert.Maths

/-! ## Scratch written in part -/

/-- Inside the part written: the payload. -/
theorem put_in {α : Type} {K : ℕ} (x : (⟨3, ![2, K, 512]⟩ : Shape).Idx → α) (u : Fin 2) (o m : ℕ)
    (w : ((a : Fin 3) → Fin ((![1, m, 512] : Fin 3 → ℕ) a)) → α) (k : Fin K) (n : Fin 512) (h1 : o ≤ k.val) (h2 : k.val < o + m) :
    VecWindow.put x ![(u : ℕ), o, 0] ![1, m, 512] w (ix3 u k n) = w (ix3 (n0 := 1) (n1 := m) (n2 := 512) 0 ⟨k.val - o, by omega⟩ n) := by
  unfold VecWindow.put
  rw [dif_pos (by
    intro a
    have := n.isLt
    match a with
    | 0 => exact ⟨le_refl u.val, Nat.lt_succ_self u.val⟩
    | 1 => exact ⟨h1, h2⟩
    | 2 => exact ⟨Nat.zero_le _, show n.val < 0 + 512 by omega⟩)]
  congr 1
  funext a
  apply Fin.ext
  match a with
  | 0 => exact Nat.sub_self u.val
  | 1 => rfl
  | 2 => rfl

/-- Outside it: what was there. -/
theorem put_out {α : Type} {K : ℕ} (x : (⟨3, ![2, K, 512]⟩ : Shape).Idx → α) (u u' : Fin 2) (o m : ℕ)
    (w : ((a : Fin 3) → Fin ((![1, m, 512] : Fin 3 → ℕ) a)) → α) (k : Fin K) (n : Fin 512) (h : u' ≠ u ∨ k.val < o ∨ o + m ≤ k.val) :
    VecWindow.put x ![(u : ℕ), o, 0] ![1, m, 512] w (ix3 u' k n) = x (ix3 u' k n) := by
  unfold VecWindow.put
  rw [dif_neg]
  intro H
  have h0 : u.val ≤ u'.val ∧ u'.val < u.val + 1 := H 0
  have h1 : o ≤ k.val ∧ k.val < o + m := H 1
  rcases h with h | h | h
  · exact h (Fin.ext (by omega))
  · omega
  · omega

/-! ## The product -/

/-- The scale the weights of a gate row carry: one for the row's gate under a hyperbolic tangent, a half elsewhere. -/
def scale (r : Fin 256) : EReal := if 128 ≤ r.val ∧ r.val < 192 then 1 else half

theorem scale_mul_add (r : Fin 256) (x y : EReal) : scale r * (x + y) = scale r * x + scale r * y := by
  unfold scale
  split
  · simp
  · exact half_mul_add x y

theorem scale_mul_sum (r : Fin 256) {K : ℕ} (f : Fin K → EReal) : scale r * ∑ k, f k = ∑ k, scale r * f k := by
  unfold scale
  split
  · simp
  · exact half_mul_sum _ f

/-- The stacked weights' row `r`: the input's columns, the bias, and the state's columns, scaled. -/
structure Stacked (w : Fin 256 → Fin 128 → EReal) (W : Weights) : Prop where
  wi : ∀ (r : Fin 256) (k : Fin 2), w r ⟨k.val, by have := k.isLt; omega⟩ = scale r * W.wi r k
  b : ∀ r : Fin 256, w r 2 = scale r * (W.bi r + W.bh r)
  wh : ∀ (r : Fin 256) (k : Fin 64), w r ⟨64 + k.val, by have := k.isLt; omega⟩ = scale r * W.wh r k

/-- A stacked state column: one in row 2, nothing in rows 3 to 63. -/
structure Column (v : Fin 128 → EReal) : Prop where
  one : v 2 = 1
  none : ∀ k : Fin 128, 3 ≤ k.val → k.val < 64 → v k = 0

/-- The stacked product is the scaled gate. -/
theorem product {w : Fin 256 → Fin 128 → EReal} {W : Weights} (S : Stacked w W) {v : Fin 128 → EReal} (C : Column v)
    {x : Fin 2 → EReal} {h : Fin 64 → EReal} (hx : ∀ k : Fin 2, v ⟨k.val, by have := k.isLt; omega⟩ = x k)
    (hh : ∀ k : Fin 64, v ⟨64 + k.val, by have := k.isLt; omega⟩ = h k) (r : Fin 256) :
    ∑ k, w r k * v k = scale r * gate W x h r := by
  rw [Fin.sum_univ_two_halves 64 64 rfl, Fin.sum_univ_two_halves 3 61 rfl, Fin.sum_univ_two_halves 2 1 rfl]
  rw [← gate_bias, scale_mul_add, scale_mul_add, scale_mul_sum, scale_mul_sum]
  have e1 : ∀ k : Fin 2, w r ⟨k.val, by have := k.isLt; omega⟩ * v ⟨k.val, by have := k.isLt; omega⟩ = scale r * (x k * W.wi r k) := fun k => by
    rw [S.wi, hx, mul_assoc, mul_comm (W.wi r k)]
  have e2 : ∀ k : Fin 1, w r ⟨2 + k.val, by have := k.isLt; omega⟩ * v ⟨2 + k.val, by have := k.isLt; omega⟩ = scale r * (W.bi r + W.bh r) := fun k => by
    have := S.b r
    have h1 := C.one
    rw [Subsingleton.elim k 0]
    exact (congrArg₂ (· * ·) this h1).trans (mul_one _)
  have e3 : ∀ k : Fin 61, w r ⟨3 + k.val, by have := k.isLt; omega⟩ * v ⟨3 + k.val, by have := k.isLt; omega⟩ = 0 := fun k => by
    rw [C.none ⟨3 + k.val, by have := k.isLt; omega⟩ (by show 3 ≤ 3 + k.val; omega) (by have := k.isLt; show 3 + k.val < 64; omega), mul_zero]
  have e4 : ∀ k : Fin 64, w r ⟨64 + k.val, by have := k.isLt; omega⟩ * v ⟨64 + k.val, by have := k.isLt; omega⟩ = scale r * (h k * W.wh r k) := fun k => by
    rw [S.wh, hh, mul_assoc, mul_comm (W.wh r k)]
  simp only [e1, e2, e3, e4, Finset.sum_const_zero, add_zero, Fin.sum_univ_one]
  abel

/-! ## The next states -/

/-- One half as the kernel spells it. -/
theorem ofBits_half : Ideal.ofBits .f32 0x3F000000#32 = half := by
  rw [show half = ((1 / 2 : ℝ) : EReal) from rfl]
  simp [Ideal.ofBits, Ideal.ieee, -EReal.coe_mul]; norm_num

theorem halfTanh_at (x : FVec Ideal S64x512 .f32) (j : Fin 64) (n : Fin 512) :
    halfTanh x (ix2 j n) = Ideal.tanh (x (ix2 j n)) * half + half := by
  pointwise [halfTanh, ofBits_half]

/-- The next cell state, its product being the scaled gates. -/
theorem newC_at (G : FVec Ideal S256x512 .f32) (c : Vec Ideal S1x64x512 .f32) (g : Fin 256 → EReal) (n : Fin 512)
    (hG : ∀ r : Fin 256, G (ix2 r n) = scale r * g r) (j : Fin 64) :
    newC G c (ix2 j n) = nextC g (fun k => c (ix3 0 k n)) j := by
  have e0 := hG (row 64 (by omega) j)
  have e1 := hG (row 0 (by omega) j)
  have e2 := hG (row 128 (by omega) j)
  have hj := j.isLt
  have s0 : scale (row 64 (by omega) j) = half := if_neg (by show ¬ (128 ≤ 64 + j.val ∧ _); omega)
  have s1 : scale (row 0 (by omega) j) = half := if_neg (by show ¬ (128 ≤ 0 + j.val ∧ _); omega)
  have s2 : scale (row 128 (by omega) j) = 1 := if_pos ⟨by show 128 ≤ 128 + j.val; omega, by show 128 + j.val < 192; omega⟩
  rw [s0] at e0
  rw [s1] at e1
  rw [s2, one_mul] at e2
  unfold nextC
  rw [← half_tanh (g (row 64 (by omega) j)), ← half_tanh (g (row 0 (by omega) j)), ← e0, ← e1, ← e2]
  pointwise [newC, halfTanh_at, row]

/-- The next hidden state. -/
theorem newH_at (G : FVec Ideal S256x512 .f32) (c : Vec Ideal S1x64x512 .f32) (g : Fin 256 → EReal) (n : Fin 512)
    (hG : ∀ r : Fin 256, G (ix2 r n) = scale r * g r) (j : Fin 64) :
    newH G c (ix2 j n) = nextH g (fun k => c (ix3 0 k n)) j := by
  have e0 := hG (row 192 (by omega) j)
  have s0 : scale (row 192 (by omega) j) = half := if_neg (by show ¬ (_ ∧ 192 + j.val < 192); omega)
  rw [s0] at e0
  unfold nextH
  rw [← half_tanh (g (row 192 (by omega) j)), ← e0, ← newC_at G c g n hG]
  pointwise [newH, halfTanh_at, row]

/-! ## The loads -/

theorem prodB_at (w : Vec Ideal S256x128 .bf16) (h : Vec Ideal S1x128x512 .bf16) (r : Fin 256) (n : Fin 512) :
    prodB w h (ix2 r n) = ∑ k : Fin 128, w (ix2 r k) * h (ix3 0 k n) := by
  pointwise [prodB, dot_S256x128_S128x512_S256x512_1_0_0_1_n_n]

theorem prodF_at (w : Vec Ideal S256x128 .f32) (h : Vec Ideal S1x128x512 .f32) (r : Fin 256) (n : Fin 512) :
    prodF w h (ix2 r n) = ∑ k : Fin 128, w (ix2 r k) * h (ix3 0 k n) := by
  pointwise [prodF, dot_S256x128_S128x512_S256x512_1_0_0_1_n_n]

/-- Neighbour `n` of half `u`, of the grid point's 1024. -/
def nb (u : Fin 2) (n : Fin 512) : Fin 1024 := ⟨512 * u.val + n.val, by have := u.isLt; have := n.isLt; omega⟩

theorem posHalf_at (u : Fin 2) (v : Vec Ideal S1x2x1024 .f32) (k : Fin 2) (n : Fin 512) :
    posHalf u v (ix2 k n) = v (ix3 0 k (nb u n)) := by
  pointwise [posHalf, nb]

theorem posAt_at (I : Hand.Ins Ideal) (t : Fin 15) (k : Fin 2) (n : Fin 1024) : posAt I t (ix3 0 k n) = I.x (ix3 t k n) := by
  unfold posAt
  simp only [VecWindow.window_eq_ld (Val := Elt Ideal) (e := .f32)]
  pointwise

theorem cellOf_at (r : FVec Ideal S1x512 .f32) (n : Fin 512) : Hand.cellOf r (ix2 0 n) = Maths.cellOf (r (ix2 0 n)) := by
  pointwise [Hand.cellOf, Maths.cellOf]

theorem counts_at (rx ry : FVec Ideal S1x512 .f32) (mk : IVec S1x512 32) (n : Fin 512) :
    Hand.counts rx ry mk (ix2 0 n) = Maths.counts (rx (ix2 0 n)) (ry (ix2 0 n)) (mk (ix2 0 n)) := by
  pointwise [Hand.counts, Maths.counts, cellOf_at]

theorem member_at (rx ry : FVec Ideal S1x512 .f32) (mk : IVec S1x512 32) (q : Fin 16) (n : Fin 512) (v : EReal) :
    member rx ry mk (ix2 q n) * v = share (rx (ix2 0 n)) (ry (ix2 0 n)) (mk (ix2 0 n)) q.val v := by
  pointwise [member, cellOf_at, counts_at]
  unfold share Scalar.select
  have key : ∀ c d : BitVec 1, IntOp.andi c d = 1 ↔ d = 1#1 ∧ c = 1#1 := by decide
  have eqv : ∀ a b : BitVec 32, IntOp.cmpi .eq a b = 1#1 ↔ a = b := fun a b => by
    show BitVec.ofBool (a == b) = 1#1 ↔ a = b
    by_cases h : a = b
    · subst h; simp
    · rw [beq_false_of_ne h]; simp [h]
  refine if_congr ?_ rfl rfl
  rw [key, eqv]
  rfl

theorem cellSum_at (u : Fin 2) (v : Vec Ideal S1x2x1024 .f32) (h : Vec Ideal S1x64x512 .f32) (tx ty : Vec Ideal S1x1 .f32)
    (mk : Vec Ideal S1x512 .i32) (q : Fin 16) (j : Fin 64) :
    cellSum u v h tx ty mk (ix2 q j)
      = ∑ n : Fin 512, share (v (ix3 0 0 (nb u n)) - tx (ix2 0 0)) (v (ix3 0 1 (nb u n)) - ty (ix2 0 0)) (mk (ix2 0 n)) q.val (h (ix3 0 j n)) := by
  pointwise [cellSum, dot_S16x512_S64x512_S16x64_1_1_0_0_n_n, member_at, nb]

end Cert.Value.Neighbors

end
-- ==== Proof.Value.Stack.lean ====
/-
  The stacked weights read element by element: three writes of whole blocks of columns, then the rows' scales.
-/
module

public import proofs.«01_k».proof.Proof.Value.Arrays
public import proofs.«01_k».proof.Proof.Value.Columns
public import Idealize.ShloMosaic.Lib.Routing.OpsSet

@[expose] public section

set_option maxRecDepth 16384

noncomputable section

namespace Cert.Value.Arrays

open Idealize.ShloMosaic Idealize.ShloMosaic.TcCoe
open Cert.KernelIdeal Cert.Maths
open Facts₀ Facts

/-- An update lands where its window starts, moved by its place in the window. -/
theorem lands_at {s si su : Shape} (d : ScatterDims s si su) (j : su.Idx) {w : ℕ} (idx : IVec si w) (i : s.Idx) :
    d.resultIdx? j idx = some i ↔ ∀ a, d.start j idx a + d.window j a = ((i a : ℕ) : Int) := by
  unfold ScatterDims.resultIdx?
  constructor
  · intro h a
    split at h
    · rename_i hb
      have h := congrArg Fin.val (congrFun (Option.some.inj h) a)
      have b := (hb a).1
      replace h : (d.start j idx a + d.window j a).toNat = (i a : ℕ) := h
      omega
    · exact absurd h (by simp)
  · intro h
    rw [dif_pos (fun a => by rw [h a]; exact ⟨by omega, by exact_mod_cast (i a).isLt⟩)]
    congr 1
    funext a
    refine Fin.ext ?_
    show (d.start j idx a + d.window j a).toNat = _
    rw [h a]
    exact Int.toNat_natCast _

/-! ## The three writes -/

theorem stack0_lands (r r' : Fin 256) (k' : Fin 2) (k : Fin 128) :
    scatter_S256x128_S1_S256x2_01_n_1_0.resultIdx? (ix2 r' k') (broadcastInDim S1 ![] bcast_S_S1 (constantI S_ 32 0#32) : IVec S1 32) = some (ix2 r k) ↔ r'.val = r.val ∧ k'.val = k.val := by
  rw [lands_at]
  constructor
  · intro h
    have h0 : ((0 : Int) + (r'.val : ℕ)) = (r.val : ℕ) := h 0
    have h1 : ((0 : Int) + (k'.val : ℕ)) = (k.val : ℕ) := h 1
    omega
  · rintro ⟨h0, h1⟩
    refine Fin.forall_fin_two.2 ⟨?_, ?_⟩
    · show ((0 : Int) + (r'.val : ℕ)) = (r.val : ℕ); omega
    · show ((0 : Int) + (k'.val : ℕ)) = (k.val : ℕ); omega

theorem stack1_lands (r r' : Fin 256) (k : Fin 128) :
    scatter_S256x128_S1_S256_0_1_1_0.resultIdx? (ix1 r') (broadcastInDim S1 ![] bcast_S_S1 (constantI S_ 32 2#32) : IVec S1 32) = some (ix2 r k) ↔ r'.val = r.val ∧ k.val = 2 := by
  rw [lands_at]
  constructor
  · intro h
    have h0 : ((0 : Int) + (r'.val : ℕ)) = (r.val : ℕ) := h 0
    have h1 : ((2 : Int) + (0 : ℕ)) = (k.val : ℕ) := h 1
    omega
  · rintro ⟨h0, h1⟩
    refine Fin.forall_fin_two.2 ⟨?_, ?_⟩
    · show ((0 : Int) + (r'.val : ℕ)) = (r.val : ℕ); omega
    · show ((2 : Int) + (0 : ℕ)) = (k.val : ℕ); omega

theorem stack2_lands (r r' : Fin 256) (k' : Fin 64) (k : Fin 128) :
    scatter_S256x128_S1_S256x64_01_n_1_0.resultIdx? (ix2 r' k') (broadcastInDim S1 ![] bcast_S_S1 (constantI S_ 32 64#32) : IVec S1 32) = some (ix2 r k) ↔ r'.val = r.val ∧ 64 + k'.val = k.val := by
  rw [lands_at]
  constructor
  · intro h
    have h0 : ((0 : Int) + (r'.val : ℕ)) = (r.val : ℕ) := h 0
    have h1 : ((64 : Int) + (k'.val : ℕ)) = (k.val : ℕ) := h 1
    omega
  · rintro ⟨h0, h1⟩
    refine Fin.forall_fin_two.2 ⟨?_, ?_⟩
    · show ((0 : Int) + (r'.val : ℕ)) = (r.val : ℕ); omega
    · show ((64 : Int) + (k'.val : ℕ)) = (k.val : ℕ); omega

/-- Every index of two axes is its two coordinates. -/
theorem forall_ix2 {n0 n1 : ℕ} {p : (⟨2, ![n0, n1]⟩ : Shape).Idx → Prop} (h : ∀ a b, p (ix2 a b)) (i) : p i := by
  rw [← ix2_eta i]; exact h _ _

theorem forall_ix1 {n0 : ℕ} {p : (⟨1, ![n0]⟩ : Shape).Idx → Prop} (h : ∀ a, p (ix1 a)) (i) : p i := by
  have : ix1 (i 0) = i := by funext a; fin_cases a; rfl
  rw [← this]; exact h _

/-- The input weights' columns. -/
theorem stack0_in (wi : FVec Ideal S256x2 .f32) (r : Fin 256) (k : Fin 2) : stack0 wi (ix2 r ⟨k.val, by have := k.isLt; omega⟩) = wi (ix2 r k) := by
  unfold stack0
  refine Routing.scatter_set_hit _ _ _ _ _ _ (forall_ix2 fun r' k' h => ?_) (ix2 r k) ?_
  · rw [stack0_lands] at h
    rw [show r' = r from Fin.ext h.1, show k' = k from Fin.ext h.2]
  · rw [stack0_lands]; exact ⟨rfl, rfl⟩

/-- Other columns keep what they had. -/
theorem stack1_out (x : FVec Ideal S256x128 .f32) (b : FVec Ideal S256 .f32) (r : Fin 256) (k : Fin 128) (hk : k.val ≠ 2) : stack1 x b (ix2 r k) = x (ix2 r k) := by
  unfold stack1
  refine Routing.scatter_set_miss _ _ _ _ _ (forall_ix1 fun r' h => ?_)
  rw [stack1_lands] at h
  exact hk h.2

theorem stack1_in (x : FVec Ideal S256x128 .f32) (b : FVec Ideal S256 .f32) (r : Fin 256) : stack1 x b (ix2 r 2) = b (ix1 r) := by
  unfold stack1
  refine Routing.scatter_set_hit _ _ _ _ _ _ (forall_ix1 fun r' h => ?_) (ix1 r) ?_
  · rw [stack1_lands] at h
    rw [show r' = r from Fin.ext h.1]
  · rw [stack1_lands]; exact ⟨rfl, rfl⟩

theorem stack2_out (x : FVec Ideal S256x128 .f32) (wh : FVec Ideal S256x64 .f32) (r : Fin 256) (k : Fin 128) (hk : k.val < 64) : stack2 x wh (ix2 r k) = x (ix2 r k) := by
  unfold stack2
  refine Routing.scatter_set_miss _ _ _ _ _ (forall_ix2 fun r' k' h => ?_)
  rw [stack2_lands] at h
  omega

theorem stack2_in (x : FVec Ideal S256x128 .f32) (wh : FVec Ideal S256x64 .f32) (r : Fin 256) (k : Fin 64) : stack2 x wh (ix2 r ⟨64 + k.val, by have := k.isLt; omega⟩) = wh (ix2 r k) := by
  unfold stack2
  refine Routing.scatter_set_hit _ _ _ _ _ _ (forall_ix2 fun r' k' h => ?_) (ix2 r k) ?_
  · rw [stack2_lands] at h
    rw [show r' = r from Fin.ext h.1, show k' = k from Fin.ext (by have := h.2; simpa using this)]
  · rw [stack2_lands]; exact ⟨rfl, rfl⟩

/-! ## The scales -/

theorem scales_at (r : Fin 256) (k : Fin 128) : scales (ix2 r k) = Neighbors.scale r := by
  unfold scales Neighbors.scale
  pointwise [Neighbors.ofBits_half]
  split_ifs <;> first | rfl | omega

/-- The stacked weights are the weights, stacked and scaled. -/
theorem stacked_at (wi : FVec Ideal S256x2 .f32) (bi : FVec Ideal S256 .f32) (wh : FVec Ideal S256x64 .f32) (bh : FVec Ideal S256 .f32) (W : Weights)
    (hwi : ∀ r k, wi (ix2 r k) = W.wi r k) (hbi : ∀ r, bi (ix1 r) = W.bi r) (hwh : ∀ r k, wh (ix2 r k) = W.wh r k) (hbh : ∀ r, bh (ix1 r) = W.bh r) :
    Neighbors.Stacked (fun r k => stacked wi bi wh bh (ix2 r k)) W where
  wi r k := by
    have hk := k.isLt
    show (stack2 _ _ _ : EReal) * scales _ = _
    rw [scales_at, stack2_out _ _ _ _ (by show k.val < 64; omega), stack1_out _ _ _ _ (by show k.val ≠ 2; omega), stack0_in, hwi]
    exact mul_comm _ _
  b r := by
    show (stack2 _ _ _ : EReal) * scales _ = _
    rw [scales_at, stack2_out _ _ _ _ (by decide), stack1_in]
    pointwise [hbi, hbh]
    exact mul_comm _ _
  wh r k := by
    show (stack2 _ _ _ : EReal) * scales _ = _
    rw [scales_at, stack2_in, hwh]
    exact mul_comm _ _

end Cert.Value.Arrays

end
-- ==== Proof.Value.Steps.lean ====
/-
  The neighbours' kernel keeps, in each column of its scratch, the recurrence of one neighbour: what it
  stores at a grid point is the sum of the 1024 neighbours' shares.
-/
module

public import proofs.«01_k».proof.Proof.Value.Columns

@[expose] public section

noncomputable section

namespace Cert.Value.Neighbors

open Idealize.ShloMosaic
open Cert.KernelIdeal Cert.KernelIdeal.Hand Cert.Maths

/-- Column `n` of half `u` of a state buffer. -/
def colOf (v : S2x128x512.Idx → EReal) (u : Fin 2) (n : Fin 512) (k : Fin 128) : EReal := v (ix3 u k n)

/-- Column `n` of half `u` holds the state `p`, the hidden part in the buffer `v`, the cell part in `c`. -/
structure Holds (v : S2x128x512.Idx → EReal) (c : S2x64x512.Idx → EReal) (u : Fin 2) (n : Fin 512) (p : State) : Prop where
  col : Column (colOf v u n)
  hid : ∀ k : Fin 64, colOf v u n ⟨64 + k.val, by have := k.isLt; omega⟩ = p.1 k
  cel : ∀ k : Fin 64, c (ix3 u k n) = p.2 k

/-! ## The buffers after a part is written -/

section Put
variable {u u' : Fin 2} {n : Fin 512} {v : S2x128x512.Idx → EReal} {c : S2x64x512.Idx → EReal}

theorem column_pos (H : Column (colOf v u' n)) (w : ((a : Fin 3) → Fin ((![1, 2, 512] : Fin 3 → ℕ) a)) → EReal) :
    Column (colOf (VecWindow.put v ![(u : ℕ), 0, 0] ![1, 2, 512] w) u' n) where
  one := by
    unfold colOf
    rw [put_out (h := .inr (.inr (le_refl _)))]
    exact H.one
  none k h1 h2 := by
    unfold colOf
    rw [put_out (h := .inr (.inr (by omega)))]
    exact H.none k h1 h2

theorem column_hid (H : Column (colOf v u' n)) (w : ((a : Fin 3) → Fin ((![1, 64, 512] : Fin 3 → ℕ) a)) → EReal) :
    Column (colOf (VecWindow.put v ![(u : ℕ), 64, 0] ![1, 64, 512] w) u' n) where
  one := by
    unfold colOf
    rw [put_out (h := .inr (.inl (by decide)))]
    exact H.one
  none k h1 h2 := by
    unfold colOf
    rw [put_out (h := .inr (.inl h2))]
    exact H.none k h1 h2

theorem hid_pos (w : ((a : Fin 3) → Fin ((![1, 2, 512] : Fin 3 → ℕ) a)) → EReal) (k : Fin 64) :
    colOf (VecWindow.put v ![(u : ℕ), 0, 0] ![1, 2, 512] w) u' n ⟨64 + k.val, by have := k.isLt; omega⟩ = colOf v u' n ⟨64 + k.val, by have := k.isLt; omega⟩ := by
  unfold colOf
  rw [put_out (h := .inr (.inr (by show 0 + 2 ≤ 64 + k.val; omega)))]

theorem hid_hid (w : ((a : Fin 3) → Fin ((![1, 64, 512] : Fin 3 → ℕ) a)) → EReal) (k : Fin 64) :
    colOf (VecWindow.put v ![(u : ℕ), 64, 0] ![1, 64, 512] w) u n ⟨64 + k.val, by have := k.isLt; omega⟩ = w (ix3 (n0 := 1) (n1 := 64) (n2 := 512) 0 k n) := by
  unfold colOf
  rw [put_in (h1 := by show 64 ≤ 64 + k.val; omega) (h2 := by have := k.isLt; show 64 + k.val < 64 + 64; omega)]
  congr 2
  exact Fin.ext (by show 64 + k.val - 64 = k.val; omega)

theorem hid_off (h : u' ≠ u) (o m : ℕ) (w : ((a : Fin 3) → Fin ((![1, m, 512] : Fin 3 → ℕ) a)) → EReal) (k : Fin 128) :
    colOf (VecWindow.put v ![(u : ℕ), o, 0] ![1, m, 512] w) u' n k = colOf v u' n k := by
  unfold colOf
  rw [put_out (h := .inl h)]

theorem cel_put (w : ((a : Fin 3) → Fin ((![1, 64, 512] : Fin 3 → ℕ) a)) → EReal) (k : Fin 64) :
    VecWindow.put c ![(u : ℕ), 0, 0] ![1, 64, 512] w (ix3 u k n) = w (ix3 (n0 := 1) (n1 := 64) (n2 := 512) 0 k n) := by
  rw [put_in (h1 := Nat.zero_le _) (h2 := by have := k.isLt; omega)]
  rfl

end Put

/-! ## One step -/

/-- The kernel's inputs at a grid point are the problem's: `X n t` the place of neighbour `n` at step `t`. -/
structure Reads (I : Hand.Ins Ideal) (W : Weights) (X : Fin 1024 → ℕ → Fin 2 → EReal) (mk : Fin 1024 → BitVec 32) (tg : Fin 2 → EReal) : Prop where
  x : ∀ (t : Fin 15) (k : Fin 2) (n : Fin 1024), I.x (ix3 t k n) = X n t k
  mask : ∀ n : Fin 1024, I.mask (ix2 0 n) = mk n
  tg : ∀ k : Fin 2, I.tg (ix2 0 k) = tg k
  wb : Stacked (fun r k => I.wb (ix2 r k)) W
  wf : Stacked (fun r k => I.wf (ix2 r k)) W

variable {I : Hand.Ins Ideal} {W : Weights} {X : Fin 1024 → ℕ → Fin 2 → EReal} {mk : Fin 1024 → BitVec 32} {tg : Fin 2 → EReal}
variable (R : Reads I W X mk tg)
include R

/-- The positions put in, at either format. -/
theorem headB_at (t : Fin 15) (u : Fin 2) (s : Scr Ideal) (n : Fin 512) (k : Fin 2) :
    colOf (headSB I t u s).b u n ⟨k.val, by have := k.isLt; omega⟩ = X (nb u n) t k := by
  unfold headSB colOf
  rw [← R.x]
  refine (put_in _ u 0 2 _ _ n (Nat.zero_le _) (by have := k.isLt; show k.val < 0 + 2; omega)).trans ?_
  pointwise [posHalf_at, posAt_at]

theorem headF_at (t : Fin 15) (u : Fin 2) (s : Scr Ideal) (n : Fin 512) (k : Fin 2) :
    colOf (headSF I t u s).f u n ⟨k.val, by have := k.isLt; omega⟩ = X (nb u n) t k := by
  unfold headSF colOf
  rw [← R.x]
  refine (put_in _ u 0 2 _ _ n (Nat.zero_le _) (by have := k.isLt; show k.val < 0 + 2; omega)).trans ?_
  pointwise [posHalf_at, posAt_at]

/-- The product is the scaled gates, at either format. -/
theorem prodSB_at (t : Fin 15) (u : Fin 2) (s : Scr Ideal) (n : Fin 512) (p : State) (H : Holds s.b s.c u n p) (r : Fin 256) :
    prodSB I u (headSB I t u s) (ix2 r n) = scale r * gate W (X (nb u n) t) p.1 r := by
  have C : Column (colOf (headSB I t u s).b u n) := column_pos H.col _
  have e := product R.wb C (headB_at R t u s n) (fun k => (hid_pos _ k).trans (H.hid k)) r
  rw [← e]
  unfold prodSB
  rw [prodB_at]
  simp only [VecWindow.window_eq_ld (Val := Elt Ideal) (e := .bf16)]
  pointwise [colOf]

theorem prodSF_at (t : Fin 15) (u : Fin 2) (s : Scr Ideal) (n : Fin 512) (p : State) (H : Holds s.f s.c u n p) (r : Fin 256) :
    prodSF I u (headSF I t u s) (ix2 r n) = scale r * gate W (X (nb u n) t) p.1 r := by
  have C : Column (colOf (headSF I t u s).f u n) := column_pos H.col _
  have e := product R.wf C (headF_at R t u s n) (fun k => (hid_pos _ k).trans (H.hid k)) r
  rw [← e]
  unfold prodSF
  rw [prodF_at]
  simp only [VecWindow.window_eq_ld (Val := Elt Ideal) (e := .f32)]
  pointwise [colOf]

omit R in
theorem cellAt_at (u : Fin 2) (s : Scr Ideal) (k : Fin 64) (n : Fin 512) : cellAt u s (ix3 0 k n) = s.c (ix3 u k n) := by
  unfold cellAt
  simp only [VecWindow.window_eq_ld (Val := Elt Ideal) (e := .f32)]
  pointwise

omit R in
/-- Cell and hidden state written: the state after a step, when the product is the scaled gates. -/
theorem tail_cel {G : FVec Ideal S256x512 .f32} {u : Fin 2} {s : Scr Ideal} {n : Fin 512} {p : State} {x : Fin 2 → EReal}
    (hG : ∀ r : Fin 256, G (ix2 r n) = scale r * gate W x p.1 r) (hc : ∀ k : Fin 64, s.c (ix3 u k n) = p.2 k) (k : Fin 64) :
    (cellS u G s).c (ix3 u k n) = (cell W x p).2 k := by
  unfold cellS
  refine (cel_put _ k).trans ?_
  have e : (fun k => cellAt u s (ix3 0 k n)) = p.2 := funext fun k => (cellAt_at u s k n).trans (hc k)
  have := newC_at G (cellAt u s) (gate W x p.1) n hG k
  rw [e] at this
  pointwise [this, cell]

omit R in
theorem tailB_hid {G : FVec Ideal S256x512 .f32} {u : Fin 2} {s : Scr Ideal} {n : Fin 512} {p : State} {x : Fin 2 → EReal}
    (hG : ∀ r : Fin 256, G (ix2 r n) = scale r * gate W x p.1 r) (hc : ∀ k : Fin 64, s.c (ix3 u k n) = p.2 k) (k : Fin 64) :
    colOf (tailSB u G s).b u n ⟨64 + k.val, by have := k.isLt; omega⟩ = (cell W x p).1 k := by
  unfold tailSB
  refine (hid_hid _ k).trans ?_
  have e : (fun k => cellAt u s (ix3 0 k n)) = p.2 := funext fun k => (cellAt_at u s k n).trans (hc k)
  have := newH_at G (cellAt u s) (gate W x p.1) n hG k
  rw [e] at this
  pointwise [this, cell]

omit R in
theorem tailF_hid {G : FVec Ideal S256x512 .f32} {u : Fin 2} {s : Scr Ideal} {n : Fin 512} {p : State} {x : Fin 2 → EReal}
    (hG : ∀ r : Fin 256, G (ix2 r n) = scale r * gate W x p.1 r) (hc : ∀ k : Fin 64, s.c (ix3 u k n) = p.2 k) (k : Fin 64) :
    colOf (tailSF u G s).f u n ⟨64 + k.val, by have := k.isLt; omega⟩ = (cell W x p).1 k := by
  unfold tailSF
  refine (hid_hid _ k).trans ?_
  have e : (fun k => cellAt u s (ix3 0 k n)) = p.2 := funext fun k => (cellAt_at u s k n).trans (hc k)
  have := newH_at G (cellAt u s) (gate W x p.1) n hG k
  rw [e] at this
  pointwise [this, cell]

/-! ## A half's step on its own columns, and on the other half's -/

theorem stepBB_same (t : Fin 15) (u : Fin 2) (s : Scr Ideal) (n : Fin 512) (p : State) (H : Holds s.b s.c u n p) :
    Holds (stepBB I t u s).b (stepBB I t u s).c u n (cell W (X (nb u n) t) p) where
  col := column_hid (column_pos H.col _) _
  hid := tailB_hid (prodSB_at R t u s n p H) H.cel
  cel := tail_cel (prodSB_at R t u s n p H) H.cel

theorem stepFF_same (t : Fin 15) (u : Fin 2) (s : Scr Ideal) (n : Fin 512) (p : State) (H : Holds s.f s.c u n p) :
    Holds (stepFF I t u s).f (stepFF I t u s).c u n (cell W (X (nb u n) t) p) where
  col := column_hid (column_pos H.col _) _
  hid := tailF_hid (prodSF_at R t u s n p H) H.cel
  cel := tail_cel (prodSF_at R t u s n p H) H.cel

theorem stepBF_same (t : Fin 15) (u : Fin 2) (s : Scr Ideal) (n : Fin 512) (p : State) (H : Holds s.b s.c u n p) (C : Column (colOf s.f u n)) :
    Holds (stepBF I t u s).f (stepBF I t u s).c u n (cell W (X (nb u n) t) p) where
  col := column_hid C _
  hid := tailF_hid (prodSB_at R t u s n p H) H.cel
  cel := tail_cel (prodSB_at R t u s n p H) H.cel

omit R in
theorem stepBB_other (t : Fin 15) (u u' : Fin 2) (h : u' ≠ u) (s : Scr Ideal) (n : Fin 512) (p : State) (H : Holds s.b s.c u' n p) :
    Holds (stepBB I t u s).b (stepBB I t u s).c u' n p where
  col := column_hid (column_pos H.col _) _
  hid k := (hid_off h 64 64 _ _).trans ((hid_off h 0 2 _ _).trans (H.hid k))
  cel k := (put_out _ u u' 0 64 _ k n (.inl h)).trans (H.cel k)

omit R in
theorem stepFF_other (t : Fin 15) (u u' : Fin 2) (h : u' ≠ u) (s : Scr Ideal) (n : Fin 512) (p : State) (H : Holds s.f s.c u' n p) :
    Holds (stepFF I t u s).f (stepFF I t u s).c u' n p where
  col := column_hid (column_pos H.col _) _
  hid k := (hid_off h 64 64 _ _).trans ((hid_off h 0 2 _ _).trans (H.hid k))
  cel k := (put_out _ u u' 0 64 _ k n (.inl h)).trans (H.cel k)

omit R in
/-- The change of format on one half leaves the other half's columns, at the format before and after. -/
theorem stepBF_other (t : Fin 15) (u u' : Fin 2) (h : u' ≠ u) (s : Scr Ideal) (n : Fin 512) (p : State) (H : Holds s.b s.c u' n p) :
    Holds (stepBF I t u s).b (stepBF I t u s).c u' n p where
  col := column_pos H.col _
  hid k := (hid_off h 0 2 _ _).trans (H.hid k)
  cel k := (put_out _ u u' 0 64 _ k n (.inl h)).trans (H.cel k)

omit R in
theorem stepBF_after (t : Fin 15) (u u' : Fin 2) (h : u' ≠ u) (s : Scr Ideal) (n : Fin 512) (p : State) (H : Holds s.f s.c u' n p) :
    Holds (stepBF I t u s).f (stepBF I t u s).c u' n p where
  col := column_hid H.col _
  hid k := (hid_off h 64 64 _ _).trans (H.hid k)
  cel k := (put_out _ u u' 0 64 _ k n (.inl h)).trans (H.cel k)

/-! ## All steps -/

theorem halves_bb (t : Fin 15) (s : Scr Ideal) (n : Fin 512) (p : Fin 2 → State) (H : ∀ u, Holds s.b s.c u n (p u)) (u : Fin 2) :
    Holds (stepBB I t 1 (stepBB I t 0 s)).b (stepBB I t 1 (stepBB I t 0 s)).c u n (cell W (X (nb u n) t) (p u)) := by
  match u with
  | 0 => exact stepBB_other t 1 0 (by decide) _ n _ (stepBB_same R t 0 s n _ (H 0))
  | 1 => exact stepBB_same R t 1 _ n _ (stepBB_other t 0 1 (by decide) s n _ (H 1))

theorem halves_ff (t : Fin 15) (s : Scr Ideal) (n : Fin 512) (p : Fin 2 → State) (H : ∀ u, Holds s.f s.c u n (p u)) (u : Fin 2) :
    Holds (stepFF I t 1 (stepFF I t 0 s)).f (stepFF I t 1 (stepFF I t 0 s)).c u n (cell W (X (nb u n) t) (p u)) := by
  match u with
  | 0 => exact stepFF_other t 1 0 (by decide) _ n _ (stepFF_same R t 0 s n _ (H 0))
  | 1 => exact stepFF_same R t 1 _ n _ (stepFF_other t 0 1 (by decide) s n _ (H 1))

theorem halves_bf (t : Fin 15) (s : Scr Ideal) (n : Fin 512) (p : Fin 2 → State) (H : ∀ u, Holds s.b s.c u n (p u))
    (C : ∀ u, Column (colOf s.f u n)) (u : Fin 2) :
    Holds (stepBF I t 1 (stepBF I t 0 s)).f (stepBF I t 1 (stepBF I t 0 s)).c u n (cell W (X (nb u n) t) (p u)) := by
  match u with
  | 0 => exact stepBF_after t 1 0 (by decide) _ n _ (stepBF_same R t 0 s n _ (H 0) (C 0))
  | 1 => exact stepBF_same R t 1 _ n _ (stepBF_other t 0 1 (by decide) s n _ (H 1)) (column_hid (C 1) _)

/-- The states after a list of steps. -/
def after (W : Weights) (x : ℕ → Fin 2 → EReal) (p : State) (ts : List (Fin 15)) : State := ts.foldl (fun (p : State) (t : Fin 15) => cell W (x t) p) p

theorem run_bb (n : Fin 512) (ts : List (Fin 15)) : ∀ (s : Scr Ideal) (p : Fin 2 → State), (∀ u, Holds s.b s.c u n (p u)) → ∀ u,
    Holds (runSB I s ts).b (runSB I s ts).c u n (after W (X (nb u n)) (p u) ts) := by
  induction ts with
  | nil => intro s p H; exact H
  | cons t ts ih => intro s p H; exact ih _ (fun u => cell W (X (nb u n) t) (p u)) (halves_bb R t s n p H)

theorem run_ff (n : Fin 512) (ts : List (Fin 15)) : ∀ (s : Scr Ideal) (p : Fin 2 → State), (∀ u, Holds s.f s.c u n (p u)) → ∀ u,
    Holds (runSF I s ts).f (runSF I s ts).c u n (after W (X (nb u n)) (p u) ts) := by
  induction ts with
  | nil => intro s p H; exact H
  | cons t ts ih => intro s p H; exact ih _ (fun u => cell W (X (nb u n) t) (p u)) (halves_ff R t s n p H)

omit R in
theorem run_bb_f (ts : List (Fin 15)) : ∀ s : Scr Ideal, (runSB I s ts).f = s.f := by
  induction ts with
  | nil => intro s; rfl
  | cons t ts ih => intro s; exact ih _

end Cert.Value.Neighbors

end
-- ==== Proof.Value.Point.lean ====
/-
  The scratch at the start of a grid point, and the value stored at its end: the shares of its 1024
  neighbours summed, cell by cell.
-/
module

public import proofs.«01_k».proof.Proof.Value.Steps

@[expose] public section

noncomputable section

namespace Cert.Value.Neighbors

open Idealize.ShloMosaic
open Cert.KernelIdeal Cert.KernelIdeal.Hand Cert.Maths

/-! ## The start -/

theorem clear_b (s : Scr Ideal) (u : Fin 2) (n : Fin 512) (k : Fin 128) : colOf (clearS s).b u n k = 0 := by
  unfold colOf clearS
  show VecWindow.put _ _ _ _ _ = _
  unfold VecWindow.put
  rw [dif_pos (by
    intro a
    match a with
    | 0 => exact ⟨Nat.zero_le _, (show u.val < 0 + 2 by have := u.isLt; omega)⟩
    | 1 => exact ⟨Nat.zero_le _, (show k.val < 0 + 128 by have := k.isLt; omega)⟩
    | 2 => exact ⟨Nat.zero_le _, (show n.val < 0 + 512 by have := n.isLt; omega)⟩)]
  pointwise

theorem clear_f (s : Scr Ideal) (u : Fin 2) (n : Fin 512) (k : Fin 128) : colOf (clearS s).f u n k = 0 := by
  unfold colOf clearS
  show VecWindow.put _ _ _ _ _ = _
  unfold VecWindow.put
  rw [dif_pos (by
    intro a
    match a with
    | 0 => exact ⟨Nat.zero_le _, (show u.val < 0 + 2 by have := u.isLt; omega)⟩
    | 1 => exact ⟨Nat.zero_le _, (show k.val < 0 + 128 by have := k.isLt; omega)⟩
    | 2 => exact ⟨Nat.zero_le _, (show n.val < 0 + 512 by have := n.isLt; omega)⟩)]
  pointwise

/-- A fresh column: one in row 2, nothing elsewhere. -/
def fresh (k : Fin 128) : EReal := if k = 2 then 1 else 0

theorem fresh_column : Column fresh where
  one := if_pos rfl
  none k h _ := if_neg (by rintro rfl; exact absurd h (by decide))

theorem setup_b (s : Scr Ideal) (u : Fin 2) (n : Fin 512) (H : ∀ k, colOf s.b u n k = 0) (k : Fin 128) : colOf (setupS u s).b u n k = fresh k := by
  unfold setupS
  by_cases h2 : k = 2
  · subst h2
    refine (put_in _ u 2 2 _ 2 n (le_refl _) (by decide)).trans ?_
    simp only [VecWindow.window_eq_ld (Val := Elt Ideal) (e := .bf16)]
    pointwise [fresh]
  · by_cases h3 : k = 3
    · subst h3
      refine (put_in _ u 2 2 _ 3 n (by decide) (by decide)).trans ?_
      have h0 := H 3
      unfold colOf at h0
      simp only [VecWindow.window_eq_ld (Val := Elt Ideal) (e := .bf16)]
      pointwise [fresh, h0]
    · refine (put_out _ u u 2 2 _ k n (.inr ?_)).trans ?_
      · have : k.val ≠ 2 := fun h => h2 (Fin.ext h)
        have : k.val ≠ 3 := fun h => h3 (Fin.ext h)
        omega
      · exact (H k).trans (if_neg h2).symm

theorem setup_f (s : Scr Ideal) (u : Fin 2) (n : Fin 512) (H : ∀ k, colOf s.f u n k = 0) (k : Fin 128) : colOf (setupS u s).f u n k = fresh k := by
  unfold setupS
  by_cases h2 : k = 2
  · subst h2
    refine (put_in _ u 2 1 _ 2 n (le_refl _) (by decide)).trans ?_
    pointwise [fresh]
  · refine (put_out _ u u 2 1 _ k n (.inr ?_)).trans ?_
    · have : k.val ≠ 2 := fun h => h2 (Fin.ext h)
      omega
    · exact (H k).trans (if_neg h2).symm

theorem setup_c (s : Scr Ideal) (u : Fin 2) (n : Fin 512) (k : Fin 64) : (setupS u s).c (ix3 u k n) = 0 := by
  unfold setupS
  refine (cel_put _ k).trans ?_
  pointwise

theorem setup_c_off (s : Scr Ideal) {u u' : Fin 2} (h : u' ≠ u) (n : Fin 512) (k : Fin 64) : (setupS u s).c (ix3 u' k n) = s.c (ix3 u' k n) := by
  unfold setupS
  exact put_out _ u u' 0 64 _ k n (.inl h)

/-- Both halves' columns at the start. -/
theorem start (s : Scr Ideal) (n : Fin 512) (u : Fin 2) :
    (∀ k, colOf (setupS 1 (setupS 0 (clearS s))).b u n k = fresh k) ∧ (∀ k, colOf (setupS 1 (setupS 0 (clearS s))).f u n k = fresh k)
      ∧ ∀ k : Fin 64, (setupS 1 (setupS 0 (clearS s))).c (ix3 u k n) = 0 := by
  match u with
  | 0 =>
    exact ⟨fun k => (hid_off (by decide) 2 2 _ k).trans (setup_b _ 0 n (clear_b s 0 n) k),
      fun k => (hid_off (by decide) 2 1 _ k).trans (setup_f _ 0 n (clear_f s 0 n) k),
      fun k => (setup_c_off _ (by decide) n k).trans (setup_c _ 0 n k)⟩
  | 1 =>
    exact ⟨fun k => setup_b _ 1 n (fun k => (hid_off (by decide) 2 2 _ k).trans (clear_b s 1 n k)) k,
      fun k => setup_f _ 1 n (fun k => (hid_off (by decide) 2 1 _ k).trans (clear_f s 1 n k)) k, fun k => setup_c _ 1 n k⟩

/-! ## The end -/

variable {I : Hand.Ins Ideal} {W : Weights} {X : Fin 1024 → ℕ → Fin 2 → EReal} {mk : Fin 1024 → BitVec 32} {tg : Fin 2 → EReal}
variable (R : Reads I W X mk tg)
include R

/-- After every step a column holds its neighbour's last state. -/
theorem last_at (s : Scr Ideal) (u : Fin 2) (n : Fin 512) : Holds (lastS I s).f (lastS I s).c u n (state W (X (nb u n)) 15) := by
  have S := start s n
  have H0 : ∀ u, Holds (setupS 1 (setupS 0 (clearS s))).b (setupS 1 (setupS 0 (clearS s))).c u n ((fun _ => (fun _ => 0, fun _ => 0) : Fin 2 → State) u) := fun u =>
    ⟨(funext (S u).1 : colOf _ u n = fresh) ▸ fresh_column, fun k => ((S u).1 _).trans (if_neg (by
      intro h
      have := congrArg Fin.val h
      have : 64 + k.val = 2 := this
      omega)), (S u).2.2⟩
  have C : ∀ u, Column (colOf (runSB I (setupS 1 (setupS 0 (clearS s))) early).f u n) := fun u => by
    rw [run_bb_f]
    exact (funext (S u).2.1 : colOf _ u n = fresh) ▸ fresh_column
  exact run_ff R n late _ _ (halves_bf R 9 _ n _ (run_bb R n early _ _ H0) C) u

/-- Half `u`'s sum. -/
theorem binS_at (s : Scr Ideal) (u : Fin 2) (q : Fin 16) (j : Fin 64) :
    binS I u (lastS I s) (ix2 q j)
      = ∑ n : Fin 512, share (X (nb u n) 14 0 - tg 0) (X (nb u n) 14 1 - tg 1) (mk (nb u n)) q.val ((state W (X (nb u n)) 15).1 j) := by
  unfold binS
  rw [cellSum_at]
  refine Finset.sum_congr rfl fun n _ => ?_
  have e := (last_at R s u n).hid j
  unfold colOf at e
  rw [posAt_at, posAt_at, R.x, R.x, ← e]
  simp only [VecWindow.window_eq_ld (Val := Elt Ideal) (e := .f32), VecWindow.window_eq_ld (Val := Elt Ideal) (e := .i32)]
  pointwise [R.tg]
  rw [← R.mask]
  rfl

/-- The value stored: both halves' sums. -/
theorem sumS_at (s : Scr Ideal) (q : Fin 16) (j : Fin 64) :
    sumS I (lastS I s) (ix3 0 q j)
      = ∑ n : Fin 1024, share (X n 14 0 - tg 0) (X n 14 1 - tg 1) (mk n) q.val ((state W (X n) 15).1 j) := by
  rw [Fin.sum_univ_two_halves 512 512 rfl]
  unfold sumS
  have e0 := binS_at R s 0 q j
  have e1 := binS_at R s 1 q j
  pointwise [e0, e1, nb]

end Cert.Value.Neighbors

end
-- ==== Proof.Value.Blocks.lean ====
/-
  The blocks of the first region read off the arrays, and what the region leaves in its output.
-/
module

public import proofs.«01_k».proof.Proof.Value.Stack
public import proofs.«01_k».proof.Proof.Value.Point
public import Idealize.ShloMosaic.Lib.Pipeline.ValueKit

@[expose] public section

set_option maxRecDepth 16384

noncomputable section

namespace Cert.Value.Blocks

open Idealize.ShloMosaic Idealize.ShloMosaic.TcCoe
open Cert.KernelIdeal Cert.KernelIdeal.Hand Cert.Maths
open Facts₀ Facts

theorem index0 : ∀ t : Fin cfg0.N, win0_0.index t = ![0, 0, t.val] ∧ win0_1.index t = ![0, t.val] ∧ win0_2.index t = ![0, 0]
    ∧ win0_3.index t = ![0, 0] ∧ win0_4.index t = ![0, 0] ∧ win0_5.index t = ![t.val, 0, 0] := by decide +kernel

section
variable (V : (c : Dev nD) → (b : Ref Cert.KernelIdeal.sig .tc) → Buf (Elt Ideal) ((c : Thread nD τ).loc b)) (c : Dev nD) (t : Fin cfg0.N)

theorem blk0 (s : Fin 15) (k : Fin 2) (n : Fin 1024) :
    (ins0 V c t).x (ix3 s k n) = V c main_v1 (ix3 s k ⟨t.val * 1024 + n.val, by have := n.isLt; have : t.val < 49 := t.isLt; omega⟩) := by
  show iblk0 V c 0 t _ = _
  blk_ext [iblk0, (index0 t).1]

theorem blk1 (n : Fin 1024) :
    (ins0 V c t).mask (ix2 0 n) = V c main_v3 (ix2 0 ⟨t.val * 1024 + n.val, by have := n.isLt; have : t.val < 49 := t.isLt; omega⟩) := by
  show iblk0 V c 1 t _ = _
  blk_ext [iblk0, (index0 t).2.1]

theorem blk2 (k : Fin 2) : (ins0 V c t).tg (ix2 0 k) = V c main_v5 (ix2 0 k) := by
  show iblk0 V c 2 t _ = _
  blk_ext [iblk0, (index0 t).2.2.1]

theorem blk3 (r : Fin 256) (k : Fin 128) : (ins0 V c t).wb (ix2 r k) = V c main_v25 (ix2 r k) := by
  show iblk0 V c 3 t _ = _
  blk_ext [iblk0, (index0 t).2.2.2.1]

theorem blk4 (r : Fin 256) (k : Fin 128) : (ins0 V c t).wf (ix2 r k) = V c main_v21 (ix2 r k) := by
  show iblk0 V c 4 t _ = _
  blk_ext [iblk0, (index0 t).2.2.2.2.1]

/-- The first region's output array, block by block. -/
theorem left_eq : (dat0 V c).arrAt 5 cfg0.N = fun i => out0 V c ⟨(i 0).val, (i 0).isLt⟩ (ix3 0 (i 1) (i 2)) := by
  refine (dat0 V c).arrAt_eq_of_covers 5 _ (by decide +kernel) fun t hf y => ?_
  blk_simp
  rw [after0_5]
  have e := congrFun (index0 t).2.2.2.2.2 0
  refine congr (congrArg (out0 V c) (Fin.ext e.symm)) ?_
  blk_ext [(index0 t).2.2.2.2.2]

end

/-! ## The second region's blocks: whole arrays -/

theorem index1 : ∀ t : Fin cfg1.N, win1_0.index t = ![0, 0, 0] ∧ win1_1.index t = ![0, 0, 0] ∧ win1_2.index t = ![0, 0]
    ∧ win1_3.index t = ![0, 0] ∧ win1_4.index t = ![0, 0] ∧ win1_5.index t = ![0, 0, 0] ∧ win1_6.index t = ![0, 0]
    ∧ win1_7.index t = ![0, 0] ∧ win1_8.index t = ![0, 0] ∧ win1_9.index t = ![0, 0] ∧ win1_10.index t = ![0, 0] ∧ win1_11.index t = ![0, 0] := by decide +kernel

section
variable (V : (c : Dev nD) → (b : Ref Cert.KernelIdeal.sig .tc) → Buf (Elt Ideal) ((c : Thread nD τ).loc b)) (c : Dev nD) (t : Fin cfg1.N)

theorem whole0 : (ins1 V c t).p = V c main_v26 := by
  funext y
  show iblk1 V c 0 t y = _
  blk_ext [iblk1, (index1 t).1]

theorem whole1 : (ins1 V c t).x = V c main_v22 := by
  funext y
  show iblk1 V c 1 t y = _
  blk_ext [iblk1, (index1 t).2.1]

theorem whole2 : (ins1 V c t).wi = V c main_v27 := by
  funext y
  show iblk1 V c 2 t y = _
  blk_ext [iblk1, (index1 t).2.2.1]

theorem whole3 : (ins1 V c t).wh = V c main_v28 := by
  funext y
  show iblk1 V c 3 t y = _
  blk_ext [iblk1, (index1 t).2.2.2.1]

theorem whole4 : (ins1 V c t).b = V c main_v7 := by
  funext y
  show iblk1 V c 4 t y = _
  blk_ext [iblk1, (index1 t).2.2.2.2.1]

theorem whole5 : (ins1 V c t).w1 = V c main_v24 := by
  funext y
  show iblk1 V c 5 t y = _
  blk_ext [iblk1, (index1 t).2.2.2.2.2.1]

theorem whole6 : (ins1 V c t).b1 = V c main_v29 := by
  funext y
  show iblk1 V c 6 t y = _
  blk_ext [iblk1, (index1 t).2.2.2.2.2.2.1]

theorem whole7 : (ins1 V c t).w2 = V c main_v30 := by
  funext y
  show iblk1 V c 7 t y = _
  blk_ext [iblk1, (index1 t).2.2.2.2.2.2.2.1]

theorem whole8 : (ins1 V c t).b2 = V c main_v31 := by
  funext y
  show iblk1 V c 8 t y = _
  blk_ext [iblk1, (index1 t).2.2.2.2.2.2.2.2.1]

theorem whole9 : (ins1 V c t).wc = V c main_v32 := by
  funext y
  show iblk1 V c 9 t y = _
  blk_ext [iblk1, (index1 t).2.2.2.2.2.2.2.2.2.1]

theorem whole10 : (ins1 V c t).bc = V c main_v33 := by
  funext y
  show iblk1 V c 10 t y = _
  blk_ext [iblk1, (index1 t).2.2.2.2.2.2.2.2.2.2.1]

/-- The second region's only point. -/
abbrev first1 : Fin cfg1.N := ⟨0, by decide⟩

theorem only (t : Fin cfg1.N) : t = first1 := by
  have h : t.val < 1 := t.isLt
  exact Fin.ext (by show t.val = 0; omega)

/-- The second region's output array. -/
theorem left1_eq : (dat1 V c).arrAt 11 cfg1.N = fun i => Fin1.outS (ins1 V c first1) i := by
  refine (dat1 V c).arrAt_eq_of_covers 11 _ (by decide +kernel) fun t hf y => ?_
  blk_simp
  rw [after1_11]
  refine congr (congrArg (fun u => Fin1.outS (ins1 V c u)) (only t)) ?_
  blk_ext [(index1 t).2.2.2.2.2.2.2.2.2.2.2]

end

end Cert.Value.Blocks

end
-- ==== Proof.Value.Finish.lean ====
/-
  The finishing kernel's stored value, read element by element.
-/
module

public import proofs.«01_k».proof.Proof.KernelIdeal.Finish
public import proofs.«01_k».proof.Proof.Maths.Half
public import Idealize.ShloMosaic.Lib.Pointwise

@[expose] public section

noncomputable section

namespace Cert.Value.Finish

open Idealize.ShloMosaic
open Cert.KernelIdeal Cert.KernelIdeal.Hand Cert.KernelIdeal.Hand.Fin1 Cert.Maths

theorem gates_at (x : Vec Ideal S1x1x2 .f32) (wi : Vec Ideal S2x256 .f32) (wh : Vec Ideal S64x256 .f32) (b : Vec Ideal S1x256 .f32) (h : FVec Ideal S1x64 .f32) (r : Fin 256) :
    gates x wi wh b h (ix2 0 r) = (∑ k : Fin 2, x (ix3 0 0 k) * wi (ix2 k r)) + (∑ k : Fin 64, h (ix2 0 k) * wh (ix2 k r)) + b (ix2 0 r) := by
  pointwise [gates, dot_S1x2_S2x256_S1x256_1_0_0_1_n_n, dot_S1x64_S64x256_S1x256_1_0_0_1_n_n]

theorem nextC_at (G : FVec Ideal S1x256 .f32) (c : FVec Ideal S1x64 .f32) (j : Fin 64) :
    Fin1.nextC G c (ix2 0 j) = Maths.nextC (fun r => G (ix2 0 r)) (fun k => c (ix2 0 k)) j := by
  pointwise [Fin1.nextC, Maths.nextC, row, Maths.sig, Ideal.logistic]

theorem nextH_at (G : FVec Ideal S1x256 .f32) (c : FVec Ideal S1x64 .f32) (j : Fin 64) :
    Fin1.nextH G c (ix2 0 j) = Maths.nextH (fun r => G (ix2 0 r)) (fun k => c (ix2 0 k)) j := by
  pointwise [Fin1.nextH, Maths.nextH, row, Maths.sig, nextC_at, Ideal.logistic]

theorem total_at (p : Vec Ideal S49x16x64 .f32) (q : Fin 16) (j : Fin 64) : total p (ix2 q j) = ∑ i : Fin 49, p (ix3 i q j) := by
  pointwise [total]

theorem ctxAdd_at (k : Fin 16) (s : FVec Ideal S16x64 .f32) (w : Vec Ideal S1x64x64 .f32) (a : FVec Ideal S1x64 .f32) (j : Fin 64) :
    ctxAdd k s w a (ix2 0 j) = a (ix2 0 j) + ∑ l : Fin 64, s (ix2 k l) * w (ix3 0 l j) := by
  pointwise [ctxAdd, dot_S1x64_S64x64_S1x64_1_0_0_1_n_n]

theorem combine_at (h a : FVec Ideal S1x64 .f32) (w2 : Vec Ideal S64x64 .f32) (b2 : Vec Ideal S1x64 .f32) (j : Fin 64) :
    combine h a w2 b2 (ix2 0 j) = h (ix2 0 j) + ((∑ k : Fin 64, max (a (ix2 0 k)) 0 * w2 (ix2 k j)) + b2 (ix2 0 j)) := by
  pointwise [combine, dot_S1x64_S64x64_S1x64_1_0_0_1_n_n]

theorem linear_at (x : FVec Ideal S1x64 .f32) (w : Vec Ideal S64x2 .f32) (b : Vec Ideal S1x2 .f32) (j : Fin 2) :
    linear x w b (ix2 0 j) = (∑ k : Fin 64, x (ix2 0 k) * w (ix2 k j)) + b (ix2 0 j) := by
  pointwise [linear, dot_S1x64_S64x2_S1x2_1_0_0_1_n_n]

theorem zero_at (j : Fin 64) : (Fin1.zero (F := Ideal)) (ix2 0 j) = 0 := by
  pointwise [Fin1.zero]

/-- The kernel's inputs are the problem's, and `s` is the sum of the grid points' sums. -/
structure Reads (I : Fin1.Ins Ideal) (A : Inputs) (s : Fin 16 → Fin 64 → EReal) : Prop where
  p : ∀ q j, ∑ i : Fin 49, I.p (ix3 i q j) = s q j
  x : ∀ (t : Fin 15) (k : Fin 2), I.x (ix3 t 0 k) = A.tgt t k
  wi : ∀ (k : Fin 2) (r : Fin 256), I.wi (ix2 k r) = A.W.wi r k
  wh : ∀ (k : Fin 64) (r : Fin 256), I.wh (ix2 k r) = A.W.wh r k
  b : ∀ r : Fin 256, I.b (ix2 0 r) = A.W.bi r + A.W.bh r
  w1 : ∀ (q : Fin 16) (k j : Fin 64), I.w1 (ix3 q k j) = A.w1 j (col q k)
  b1 : ∀ j : Fin 64, I.b1 (ix2 0 j) = A.b1 j
  w2 : ∀ k j : Fin 64, I.w2 (ix2 k j) = A.w2 j k
  b2 : ∀ j : Fin 64, I.b2 (ix2 0 j) = A.b2 j
  wc : ∀ (k : Fin 64) (j : Fin 2), I.wc (ix2 k j) = A.wc j k
  bc : ∀ j : Fin 2, I.bc (ix2 0 j) = A.bc j

variable {I : Fin1.Ins Ideal} {A : Inputs} {s : Fin 16 → Fin 64 → EReal} (R : Reads I A s)
include R

theorem gatesS_at (t : Fin 15) (h : FVec Ideal S1x64 .f32) (r : Fin 256) :
    gatesS I t h (ix2 0 r) = gate A.W (A.tgt t) (fun k => h (ix2 0 k)) r := by
  unfold gatesS
  rw [gates_at, ← gate_bias]
  simp only [VecWindow.window_eq_ld (Val := Elt Ideal) (e := .f32)]
  pointwise [R.x, R.wi, R.wh, R.b]

/-- One step of the kernel's is one step of the cell. -/
theorem step_at (t : Fin 15) (h c : FVec Ideal S1x64 .f32) :
    ((fun k => Fin1.nextH (gatesS I t h) c (ix2 0 k), fun k => Fin1.nextC (gatesS I t h) c (ix2 0 k)) : State)
      = cell A.W (A.tgt t) (fun k => h (ix2 0 k), fun k => c (ix2 0 k)) := by
  have e : (fun r => gatesS I t h (ix2 0 r)) = gate A.W (A.tgt t) (fun k => h (ix2 0 k)) := funext (gatesS_at R t h)
  simp only [nextH_at, nextC_at, e]
  rfl

theorem steps_at (ts : List (Fin 15)) : ∀ (h c : FVec Ideal S1x64 .f32) (k : Fin 64),
    stepsS I ts h c (ix2 0 k) = (ts.foldl (fun (s : State) (t : Fin 15) => cell A.W (A.tgt t) s) ((fun k => h (ix2 0 k), fun k => c (ix2 0 k)) : State)).1 k := by
  induction ts with
  | nil => intro h c k; rfl
  | cons t ts ih =>
    intro h c k
    rw [List.foldl_cons, ← step_at R t h c]
    exact ih _ _ k

theorem hidden_at (k : Fin 64) : stepsS I allSteps Fin1.zero Fin1.zero (ix2 0 k) = (state A.W A.tgt 15).1 k := by
  rw [steps_at R]
  simp only [zero_at]
  rfl

theorem cells_at (p : FVec Ideal S16x64 .f32) (ks : List (Fin 16)) : ∀ (a : FVec Ideal S1x64 .f32) (j : Fin 64),
    cellsS I p ks a (ix2 0 j) = a (ix2 0 j) + (ks.map fun q => ∑ k : Fin 64, p (ix2 q k) * A.w1 j (col q k)).sum := by
  induction ks with
  | nil => intro a j; simp [cellsS]
  | cons q ks ih =>
    intro a j
    rw [List.map_cons, List.sum_cons, ← add_assoc]
    refine (ih _ j).trans ?_
    rw [ctxAdd_at]
    simp only [VecWindow.window_eq_ld (Val := Elt Ideal) (e := .f32)]
    pointwise [R.w1]

/-- What the kernel stores is the problem's result, the sums taken as given. -/
theorem out_at (j : Fin 2) :
    outS I (ix2 0 j) = (∑ k, ((state A.W A.tgt 15).1 k + layer2 A s k) * A.wc j k) + A.bc j := by
  unfold outS
  rw [linear_at]
  simp only [combine_at, cells_at R, hidden_at R, total_at]
  simp only [VecWindow.window_eq_ld (Val := Elt Ideal) (e := .f32)]
  pointwise [R.p, R.b1, R.w2, R.b2, R.wc, R.bc]
  have e : ∀ f : Fin 16 → EReal, (allCells.map f).sum = ∑ q, f q := fun f => by
    rw [show allCells = List.finRange 16 from by decide, ← List.ofFn_eq_map, List.sum_ofFn]
  unfold layer2 layer1
  simp only [e, add_comm (A.b1 _)]

end Cert.Value.Finish

end
-- ==== Proof.Maths.Args.lean ====
/-
  The problem's inputs as read off the thirteen argument arrays.
-/
module

public import proofs.«01_k».proof.Proof.Maths.Spec
public import Idealize.ShloMosaic.Lib.Pointwise

@[expose] public section

noncomputable section

namespace Cert.Maths

open Idealize.ShloMosaic

/-- Positions of the target and of the neighbours by time, the last mask row, the weights. -/
def inputs (a0 : FVec Ideal ⟨3, ![15, 1, 2]⟩ .f32) (a1 : FVec Ideal ⟨3, ![15, 50000, 2]⟩ .f32) (a2 : IVec ⟨2, ![15, 50000]⟩ 32)
    (a3 : FVec Ideal ⟨2, ![256, 2]⟩ .f32) (a4 : FVec Ideal ⟨1, ![256]⟩ .f32) (a5 : FVec Ideal ⟨2, ![256, 64]⟩ .f32)
    (a6 : FVec Ideal ⟨1, ![256]⟩ .f32) (a7 : FVec Ideal ⟨2, ![64, 1024]⟩ .f32) (a8 : FVec Ideal ⟨1, ![64]⟩ .f32)
    (a9 : FVec Ideal ⟨2, ![64, 64]⟩ .f32) (a10 : FVec Ideal ⟨1, ![64]⟩ .f32) (a11 : FVec Ideal ⟨2, ![2, 64]⟩ .f32)
    (a12 : FVec Ideal ⟨1, ![2]⟩ .f32) : Inputs where
  tgt t k := a0 (ix3 (Fin.ofNat 15 t) 0 k)
  oth n t k := a1 (ix3 (Fin.ofNat 15 t) n k)
  mask n := a2 (ix2 14 n)
  W := ⟨fun r k => a3 (ix2 r k), fun r => a4 (ix1 r), fun r k => a5 (ix2 r k), fun r => a6 (ix1 r)⟩
  w1 j k := a7 (ix2 j k)
  b1 j := a8 (ix1 j)
  w2 j k := a9 (ix2 j k)
  b2 j := a10 (ix1 j)
  wc j k := a11 (ix2 j k)
  bc j := a12 (ix1 j)

/-- A time below fifteen is read as itself. -/
theorem time_eq (t : Fin 15) : Fin.ofNat 15 t.val = t := Fin.ext (Nat.mod_eq_of_lt t.isLt)

end Cert.Maths

end
-- ==== Proof.Value.Kernel.lean ====
/-
  The first region's result: its forty-nine partial sums, over neighbours padded with masks of zero, add up to
  the problem's sums by cell.
-/
module

public import proofs.«01_k».proof.Proof.Value.Blocks
public import proofs.«01_k».proof.Proof.Value.Finish
public import proofs.«01_k».proof.Proof.Maths.Args

@[expose] public section

set_option maxRecDepth 16384

noncomputable section

namespace Cert.Value.Kernel

open Idealize.ShloMosaic Idealize.ShloMosaic.TcCoe
open Cert.KernelIdeal Cert.KernelIdeal.Hand Cert.Maths Cert.Value.Blocks
open Facts₀ Facts

variable (m : (ℓ : Loc nD τ Cert.KernelIdeal.sig) → Buf (Elt Ideal) ℓ) (c : Dev nD)

/-- The problem's inputs as the kernel holds them. -/
def args : Inputs :=
  inputs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12))

/-! ## The padded arrays -/

/-- A real neighbour's position in the padded array. -/
theorem padded_at (x : FVec Ideal S15x50000x2 .f32) (z : FVec Ideal S_ .f32) (s : Fin 15) (k : Fin 2) (n : Fin 50176) (h : n.val < 50000) :
    transpose S15x2x50176 [0, 2, 1] (pad S15x50176x2 ![0, 0, 0] ![0, 176, 0] ![0, 0, 0] x z pads_S15x50000x2_S15x50176x2_000_01760_000 h_S_) transposes_S15x50176x2_S15x2x50176_0_2_1 (ix3 s k n) = x (ix3 s ⟨n.val, h⟩ k) := by
  pointwise
  exact dif_pos h

theorem position_real (s : Fin 15) (k : Fin 2) (n : Fin 50176) (h : n.val < 50000) :
    E0 m c main_v1 (ix3 s k n) = (args m c).oth ⟨n.val, h⟩ s.val k := by
  show Gen.V5 m c main_v1 _ = m ((c.tc : Thread nD τ).loc main_arg1) (ix3 (Fin.ofNat 15 s.val) ⟨n.val, h⟩ k)
  rw [Arrays.positions, time_eq]
  exact padded_at _ _ s k n h

theorem mask_real (n : Fin 50176) (h : n.val < 50000) : E0 m c main_v3 (ix2 0 n) = (args m c).mask ⟨n.val, h⟩ := by
  show Gen.V5 m c main_v3 _ = m ((c.tc : Thread nD τ).loc main_arg2) (ix2 14 ⟨n.val, h⟩)
  rw [Arrays.mask]
  pointwise
  exact dif_pos h

theorem mask_pad (n : Fin 50176) (h : 50000 ≤ n.val) : E0 m c main_v3 (ix2 0 n) = 0#32 := by
  show Gen.V5 m c main_v3 _ = _
  rw [Arrays.mask]
  pointwise
  exact dif_neg (by omega)

/-- Padded neighbour `n`'s positions by time. -/
def pos (n : Fin 50176) (t : ℕ) (k : Fin 2) : EReal := E0 m c main_v1 (ix3 (Fin.ofNat 15 t) k n)

/-- Padded neighbour `n`'s share of cell `q`. -/
def partPad (n : Fin 50176) (q : ℕ) (j : Fin 64) : EReal :=
  share (pos m c n 14 0 - (args m c).tgt 14 0) (pos m c n 14 1 - (args m c).tgt 14 1) (E0 m c main_v3 (ix2 0 n)) q ((state (args m c).W (pos m c n) 15).1 j)

theorem state_congr (W : Weights) (x y : ℕ → Fin 2 → EReal) (T : ℕ) (h : ∀ t, t < T → x t = y t) : state W x T = state W y T := by
  induction T with
  | zero => rfl
  | succ T ih =>
    show cell W (x T) (state W x T) = cell W (y T) (state W y T)
    rw [h T (by omega), ih fun t ht => h t (by omega)]

theorem partPad_real (n : Fin 50176) (h : n.val < 50000) (q : ℕ) (j : Fin 64) : partPad m c n q j = part (args m c) ⟨n.val, h⟩ q j := by
  have hp : pos m c n = (args m c).oth ⟨n.val, h⟩ := by
    funext t k
    unfold pos
    rw [position_real m c _ k n h]
    show m ((c.tc : Thread nD τ).loc main_arg1) (ix3 (Fin.ofNat 15 (Fin.ofNat 15 t).val) _ k) = m ((c.tc : Thread nD τ).loc main_arg1) (ix3 (Fin.ofNat 15 t) _ k)
    rw [time_eq]
  unfold partPad part
  rw [hp, mask_real m c n h]

theorem partPad_pad (n : Fin 50176) (h : 50000 ≤ n.val) (q : ℕ) (j : Fin 64) : partPad m c n q j = 0 := by
  unfold partPad
  rw [mask_pad m c n h]
  exact share_off _ _ _ _

/-- The padded neighbours' shares add up to the problem's sum. -/
theorem sum_parts (q : Fin 16) (j : Fin 64) : ∑ n : Fin 50176, partPad m c n q.val j = social (args m c) q j := by
  rw [Fin.sum_univ_two_halves 50000 176 (by decide)]
  rw [Finset.sum_eq_zero (s := (Finset.univ : Finset (Fin 176))) (fun n _ => partPad_pad m c _ (by show 50000 ≤ 50000 + n.val; omega) _ _), add_zero]
  exact Finset.sum_congr rfl fun n _ => partPad_real m c _ n.isLt _ _

/-! ## The first region -/

/-- Point `t`'s neighbour `n`. -/
def nbr (t : Fin cfg0.N) (n : Fin 1024) : Fin 50176 := ⟨t.val * 1024 + n.val, by have := n.isLt; have : t.val < 49 := t.isLt; omega⟩

theorem weights_stacked : Neighbors.Stacked (fun r k => Arrays.stacked (m ((c.tc : Thread nD τ).loc main_arg3)) (m ((c.tc : Thread nD τ).loc main_arg4))
    (m ((c.tc : Thread nD τ).loc main_arg5)) (m ((c.tc : Thread nD τ).loc main_arg6)) (ix2 r k)) (args m c).W :=
  Arrays.stacked_at _ _ _ _ _ (fun _ _ => rfl) (fun _ => rfl) (fun _ _ => rfl) (fun _ => rfl)

theorem reads0 (t : Fin cfg0.N) :
    Neighbors.Reads (ins0 (E0 m) c t) (args m c).W (fun n => pos m c (nbr t n)) (fun n => E0 m c main_v3 (ix2 0 (nbr t n))) (fun k => (args m c).tgt 14 k) where
  x s k n := by
    rw [blk0]
    show _ = E0 m c main_v1 (ix3 (Fin.ofNat 15 s.val) k _)
    rw [time_eq]
    rfl
  mask n := blk1 (E0 m) c t n
  tg k := by
    rw [blk2]
    show Gen.V5 m c main_v5 _ = m ((c.tc : Thread nD τ).loc main_arg0) (ix3 14 0 k)
    rw [Arrays.target]
    pointwise
  wb := by
    have h := weights_stacked m c
    rw [← Arrays.weights'] at h
    exact ⟨fun r k => (blk3 (E0 m) c t r _).trans (h.wi r k), fun r => (blk3 (E0 m) c t r _).trans (h.b r), fun r k => (blk3 (E0 m) c t r _).trans (h.wh r k)⟩
  wf := by
    have h := weights_stacked m c
    rw [← Arrays.weights] at h
    exact ⟨fun r k => (blk4 (E0 m) c t r _).trans (h.wi r k), fun r => (blk4 (E0 m) c t r _).trans (h.b r), fun r k => (blk4 (E0 m) c t r _).trans (h.wh r k)⟩

/-- The first region's output at point `t`. -/
theorem left0_at (t : Fin 49) (q : Fin 16) (j : Fin 64) : left0 m c (ix3 t q j) = ∑ n : Fin 1024, partPad m c (nbr t n) q.val j := by
  unfold left0
  rw [left_eq]
  exact Neighbors.sumS_at (reads0 m c t) _ q j

/-- The first region's output as an array of numbers. -/
def blockSums : FVec Ideal S49x16x64 .f32 := left0 m c

/-- The blocks' sums add up to the sums by cell. -/
theorem left0_sum (q : Fin 16) (j : Fin 64) : ∑ t : Fin 49, blockSums m c (ix3 t q j) = social (args m c) q j := by
  rw [← sum_parts, Fin.sum_univ_tiles 49 1024 (N := 50176) (by decide) (fun n => partPad m c n q.val j)]
  exact Finset.sum_congr rfl fun t _ => left0_at m c t q j

end Cert.Value.Kernel

end
-- ==== Proof.Value.KernelResult.lean ====
/-
  The second region's arrays, and the kernel's result.
-/
module

public import proofs.«01_k».proof.Proof.Value.Kernel

@[expose] public section

set_option maxRecDepth 16384

noncomputable section

namespace Cert.Value.Kernel

open Idealize.ShloMosaic Idealize.ShloMosaic.TcCoe Idealize.ShloMosaic.Tactic
open Idealize.ShloMosaic.StableHlo
open Cert.KernelIdeal Cert.KernelIdeal.Hand Cert.Maths Cert.Value.Blocks
open Facts₀ Facts

variable (m : (ℓ : Loc nD τ Cert.KernelIdeal.sig) → Buf (Elt Ideal) ℓ) (c : Dev nD)

/-- Between the regions an argument is as at the start. -/
theorem kept (r : Ref Cert.KernelIdeal.sig .tc) (h6 : r ∉ ([main_v26] : List (Ref Cert.KernelIdeal.sig .tc))) (h5 : r ∉ Gen.hostOps0_4_W) (h4 : r ∉ Gen.hostOps0_3_W)
    (h3 : r ∉ Gen.hostOps0_2_W) (h2 : r ∉ Gen.hostOps0_1_W) (h1 : r ∉ Gen.hostOps0_W) : Gen.V6 m (outsA m) c r = m ((c : Thread nD τ).loc r) := by
  rw [Gen.V6_of m _ c _ h6, Gen.V5_of m c _ h5, Gen.V4_of m c _ h4, Gen.V3_of m c _ h3, Gen.V2_of m c _ h2, Gen.V1_of m c _ h1]

/-- An array made before the first region is still there. -/
theorem early (r : Ref Cert.KernelIdeal.sig .tc) (h7 : r ∉ Gen.hostOps1_W) (h6 : r ∉ ([main_v26] : List (Ref Cert.KernelIdeal.sig .tc))) : E1 m c r = Gen.V5 m c r := by
  show Gen.V7 m (outsA m) c r = _
  rw [Gen.V7_of m _ c _ h7, Gen.V6_of m _ c _ h6]

/-- The first region's output is there. -/
theorem sums_array : E1 m c main_v26 = left0 m c := by
  show Gen.V7 m (outsA m) c main_v26 = _
  rw [Gen.V7_of m _ c _ (by decide)]
  unfold Gen.V6
  rw [Function.update_self]
  unfold outsA
  rw [Function.update_self]

theorem line_v27 (V : Valuation τ Cert.KernelIdeal.sig (Elt Ideal)) : StableHlo.after Gen.hostOps1 V (Proc.devRef .tc main_v27) = (transpose S2x256 [1, 0] (V (Proc.devRef .tc main_arg3)) transposes_S256x2_S2x256_1_0 : FVec Ideal S2x256 .f32) := by
  after_reads_simp

theorem late_v27 : E1 m c main_v27 = (transpose S2x256 [1, 0] (m ((c : Thread nD τ).loc main_arg3)) transposes_S256x2_S2x256_1_0 : FVec Ideal S2x256 .f32) := by
  refine (line_v27 _).trans ?_
  rw [kept m c main_arg3 (by decide) (by decide) (by decide) (by decide) (by decide) (by decide)]

theorem line_v28 (V : Valuation τ Cert.KernelIdeal.sig (Elt Ideal)) : StableHlo.after Gen.hostOps1 V (Proc.devRef .tc main_v28) = (transpose S64x256 [1, 0] (V (Proc.devRef .tc main_arg5)) transposes_S256x64_S64x256_1_0 : FVec Ideal S64x256 .f32) := by
  after_reads_simp

theorem late_v28 : E1 m c main_v28 = (transpose S64x256 [1, 0] (m ((c : Thread nD τ).loc main_arg5)) transposes_S256x64_S64x256_1_0 : FVec Ideal S64x256 .f32) := by
  refine (line_v28 _).trans ?_
  rw [kept m c main_arg5 (by decide) (by decide) (by decide) (by decide) (by decide) (by decide)]

theorem line_v29 (V : Valuation τ Cert.KernelIdeal.sig (Elt Ideal)) : StableHlo.after Gen.hostOps1 V (Proc.devRef .tc main_v29) = (shapeCast S1x64 (V (Proc.devRef .tc main_arg8)) shapeCasts_S64_S1x64 : FVec Ideal S1x64 .f32) := by
  after_reads_simp
  rfl

theorem late_v29 : E1 m c main_v29 = (shapeCast S1x64 (m ((c : Thread nD τ).loc main_arg8)) shapeCasts_S64_S1x64 : FVec Ideal S1x64 .f32) := by
  refine (line_v29 _).trans ?_
  rw [kept m c main_arg8 (by decide) (by decide) (by decide) (by decide) (by decide) (by decide)]

theorem line_v30 (V : Valuation τ Cert.KernelIdeal.sig (Elt Ideal)) : StableHlo.after Gen.hostOps1 V (Proc.devRef .tc main_v30) = (transpose S64x64 [1, 0] (V (Proc.devRef .tc main_arg9)) transposes_S64x64_S64x64_1_0 : FVec Ideal S64x64 .f32) := by
  after_reads_simp

theorem late_v30 : E1 m c main_v30 = (transpose S64x64 [1, 0] (m ((c : Thread nD τ).loc main_arg9)) transposes_S64x64_S64x64_1_0 : FVec Ideal S64x64 .f32) := by
  refine (line_v30 _).trans ?_
  rw [kept m c main_arg9 (by decide) (by decide) (by decide) (by decide) (by decide) (by decide)]

theorem line_v31 (V : Valuation τ Cert.KernelIdeal.sig (Elt Ideal)) : StableHlo.after Gen.hostOps1 V (Proc.devRef .tc main_v31) = (shapeCast S1x64 (V (Proc.devRef .tc main_arg10)) shapeCasts_S64_S1x64 : FVec Ideal S1x64 .f32) := by
  after_reads_simp
  rfl

theorem late_v31 : E1 m c main_v31 = (shapeCast S1x64 (m ((c : Thread nD τ).loc main_arg10)) shapeCasts_S64_S1x64 : FVec Ideal S1x64 .f32) := by
  refine (line_v31 _).trans ?_
  rw [kept m c main_arg10 (by decide) (by decide) (by decide) (by decide) (by decide) (by decide)]

theorem line_v32 (V : Valuation τ Cert.KernelIdeal.sig (Elt Ideal)) : StableHlo.after Gen.hostOps1 V (Proc.devRef .tc main_v32) = (transpose S64x2 [1, 0] (V (Proc.devRef .tc main_arg11)) transposes_S2x64_S64x2_1_0 : FVec Ideal S64x2 .f32) := by
  after_reads_simp

theorem late_v32 : E1 m c main_v32 = (transpose S64x2 [1, 0] (m ((c : Thread nD τ).loc main_arg11)) transposes_S2x64_S64x2_1_0 : FVec Ideal S64x2 .f32) := by
  refine (line_v32 _).trans ?_
  rw [kept m c main_arg11 (by decide) (by decide) (by decide) (by decide) (by decide) (by decide)]

theorem line_v33 (V : Valuation τ Cert.KernelIdeal.sig (Elt Ideal)) : StableHlo.after Gen.hostOps1 V (Proc.devRef .tc main_v33) = (shapeCast S1x2 (V (Proc.devRef .tc main_arg12)) shapeCasts_S2_S1x2 : FVec Ideal S1x2 .f32) := by
  after_reads_simp
  rfl

theorem late_v33 : E1 m c main_v33 = (shapeCast S1x2 (m ((c : Thread nD τ).loc main_arg12)) shapeCasts_S2_S1x2 : FVec Ideal S1x2 .f32) := by
  refine (line_v33 _).trans ?_
  rw [kept m c main_arg12 (by decide) (by decide) (by decide) (by decide) (by decide) (by decide)]

/-- The second region reads the problem's inputs and its sums by cell. -/
theorem reads1 (t : Fin cfg1.N) : Finish.Reads (ins1 (E1 m) c t) (args m c) (social (args m c)) where
  p q j := by
    rw [whole0, sums_array]
    exact left0_sum m c q j
  x s k := by
    rw [whole1, early m c _ (by decide) (by decide), Arrays.track]
    show _ = m ((c.tc : Thread nD τ).loc main_arg0) (ix3 (Fin.ofNat 15 s.val) 0 k)
    rw [time_eq]
    pointwise
  wi k r := by
    rw [whole2, late_v27]
    show _ = m ((c.tc : Thread nD τ).loc main_arg3) (ix2 r k)
    pointwise
  wh k r := by
    rw [whole3, late_v28]
    show _ = m ((c.tc : Thread nD τ).loc main_arg5) (ix2 r k)
    pointwise
  b r := by
    rw [whole4, early m c _ (by decide) (by decide), Arrays.bias]
    pointwise
    rfl
  w1 q k j := by
    rw [whole5, early m c _ (by decide) (by decide), Arrays.first]
    show _ = m ((c.tc : Thread nD τ).loc main_arg7) (ix2 j (col q k))
    pointwise
    rfl
  b1 j := by
    rw [whole6, late_v29]
    show _ = m ((c.tc : Thread nD τ).loc main_arg8) (ix1 j)
    pointwise
  w2 k j := by
    rw [whole7, late_v30]
    show _ = m ((c.tc : Thread nD τ).loc main_arg9) (ix2 j k)
    pointwise
  b2 j := by
    rw [whole8, late_v31]
    show _ = m ((c.tc : Thread nD τ).loc main_arg10) (ix1 j)
    pointwise
  wc k j := by
    rw [whole9, late_v32]
    show _ = m ((c.tc : Thread nD τ).loc main_arg11) (ix2 j k)
    pointwise
  bc j := by
    rw [whole10, late_v33]
    show _ = m ((c.tc : Thread nD τ).loc main_arg12) (ix1 j)
    pointwise

/-- The kernel's result. -/
theorem left1_at (j : Fin 2) : left1 m c (ix2 0 j) = out (args m c) j := by
  unfold left1
  rw [left1_eq]
  exact Finish.out_at (reads1 m c first1) j

end Cert.Value.Kernel

end
-- ==== Proof.Value.RefStep.lean ====
/-
  One trip of the reference's loop read element by element: the carried buffers hold the target's and
  the neighbours' states, and the last trip's combination is the problem's.
-/
module

public import proofs.«01_k».proof.Proof.Gen.ReferenceIdeal.Run
public import proofs.«01_k».proof.Proof.Maths.Half
public import Idealize.ShloMosaic.Lib.Pointwise

@[expose] public section

noncomputable section

namespace Cert.Value.Reference

open Idealize.ShloMosaic Idealize.ShloMosaic.TcCoe
open Cert.ReferenceIdeal Cert.ReferenceIdeal.Value Cert.Maths
open Facts₀ Facts

theorem word_toInt (t : Fin 15) : (BitVec.ofNat 32 t.val).toInt = t.val := by
  revert t; decide

theorem index_zero {F : FTy → Type} [FloatOps F] (i : S_.Idx) : ((constantI S_ 32 0#32 : IVec S_ 32) i).toInt = ((0 : ℕ) : Int) := rfl

/-- The carried buffers before trip `t`: the problem's inputs, the trip's number, and the states so far. -/
structure Carried (V : Valuation τ sig (Elt Ideal)) (A : Inputs) (t : ℕ) : Prop where
  tgt : ∀ (s : Fin 15) (k : Fin 2), V (Proc.devRef .tc main_v6_0) (ix2 s k) = A.tgt s k
  oth : ∀ (s : Fin 15) (n : Fin 50000) (k : Fin 2), V (Proc.devRef .tc main_v6_1) (ix3 s n k) = A.oth n s k
  mask : ∀ n : Fin 50000, V (Proc.devRef .tc main_v6_2) (ix2 14 n) = A.mask n
  wi : ∀ (r : Fin 256) (k : Fin 2), V (Proc.devRef .tc main_v6_3) (ix2 r k) = A.W.wi r k
  bi : ∀ r : Fin 256, V (Proc.devRef .tc main_v6_4) (ix1 r) = A.W.bi r
  wh : ∀ (r : Fin 256) (k : Fin 64), V (Proc.devRef .tc main_v6_5) (ix2 r k) = A.W.wh r k
  bh : ∀ r : Fin 256, V (Proc.devRef .tc main_v6_6) (ix1 r) = A.W.bh r
  w1 : ∀ (j : Fin 64) (k : Fin 1024), V (Proc.devRef .tc main_v6_7) (ix2 j k) = A.w1 j k
  b1 : ∀ j : Fin 64, V (Proc.devRef .tc main_v6_8) (ix1 j) = A.b1 j
  w2 : ∀ j k : Fin 64, V (Proc.devRef .tc main_v6_9) (ix2 j k) = A.w2 j k
  b2 : ∀ j : Fin 64, V (Proc.devRef .tc main_v6_10) (ix1 j) = A.b2 j
  trip : V (Proc.devRef .tc main_v6_11) = fun _ => BitVec.ofNat 32 t
  h : ∀ k : Fin 64, V (Proc.devRef .tc main_v6_12) (ix2 0 k) = (state A.W A.tgt t).1 k
  c : ∀ k : Fin 64, V (Proc.devRef .tc main_v6_13) (ix2 0 k) = (state A.W A.tgt t).2 k
  hs : ∀ (n : Fin 50000) (k : Fin 64), V (Proc.devRef .tc main_v6_14) (ix2 n k) = (state A.W (A.oth n) t).1 k
  cs : ∀ (n : Fin 50000) (k : Fin 64), V (Proc.devRef .tc main_v6_15) (ix2 n k) = (state A.W (A.oth n) t).2 k

variable {V : Valuation τ sig (Elt Ideal)} {A : Inputs} {t : Fin 15} (R : Carried V A t)
include R

/-! ## The step's positions -/

theorem target_pos (k : Fin 2) : res_main_while0b_v11 V (ix1 k) = A.tgt t k := by
  unfold res_main_while0b_v11
  rw [← R.tgt]
  have e0 : Host.clampedStart S15x2 S1x2 (by decide) (fun a => BitVec.toInt (((![V (Proc.devRef .tc main_v6_11), constantI S_ 32 0#32] : Fin 2 → (⟨S_, .i32⟩ : BufTy).Contents (Elt Ideal))) a (Shape.Idx.first h_S_))) 0 = t.val :=
    Host.clampedStart_of_le _ _ _ _ ((congrArg BitVec.toInt (congrFun R.trip _)).trans (word_toInt t)) (by have := t.isLt; show t.val + 1 ≤ 15; omega)
  have e1 : Host.clampedStart S15x2 S1x2 (by decide) (fun a => BitVec.toInt (((![V (Proc.devRef .tc main_v6_11), constantI S_ 32 0#32] : Fin 2 → (⟨S_, .i32⟩ : BufTy).Contents (Elt Ideal))) a (Shape.Idx.first h_S_))) 1 = 0 :=
    Host.clampedStart_of_le _ _ _ _ rfl (by decide)
  pointwise
  congr 1
  refine congrArg₂ _ (Fin.ext e0) (Fin.ext ?_)
  exact (congrArg (· + k.val) e1).trans (Nat.zero_add _)

theorem others_pos (n : Fin 50000) (k : Fin 2) : res_main_while0b_v12 V (ix2 n k) = A.oth n t k := by
  unfold res_main_while0b_v12
  rw [← R.oth]
  have e0 : Host.clampedStart S15x50000x2 S1x50000x2 (by decide) (fun a => BitVec.toInt (((![V (Proc.devRef .tc main_v6_11), constantI S_ 32 0#32, constantI S_ 32 0#32] : Fin 3 → (⟨S_, .i32⟩ : BufTy).Contents (Elt Ideal))) a (Shape.Idx.first h_S_))) 0 = t.val :=
    Host.clampedStart_of_le _ _ _ _ ((congrArg BitVec.toInt (congrFun R.trip _)).trans (word_toInt t)) (by have := t.isLt; show t.val + 1 ≤ 15; omega)
  have e1 : Host.clampedStart S15x50000x2 S1x50000x2 (by decide) (fun a => BitVec.toInt (((![V (Proc.devRef .tc main_v6_11), constantI S_ 32 0#32, constantI S_ 32 0#32] : Fin 3 → (⟨S_, .i32⟩ : BufTy).Contents (Elt Ideal))) a (Shape.Idx.first h_S_))) 1 = 0 :=
    Host.clampedStart_of_le _ _ _ _ rfl (by decide)
  have e2 : Host.clampedStart S15x50000x2 S1x50000x2 (by decide) (fun a => BitVec.toInt (((![V (Proc.devRef .tc main_v6_11), constantI S_ 32 0#32, constantI S_ 32 0#32] : Fin 3 → (⟨S_, .i32⟩ : BufTy).Contents (Elt Ideal))) a (Shape.Idx.first h_S_))) 2 = 0 :=
    Host.clampedStart_of_le _ _ _ _ rfl (by decide)
  pointwise
  congr 1
  have f0 : ∀ h, (⟨_, h⟩ : Fin 15) = t := fun h => Fin.ext e0
  have f1 : ∀ h, (⟨_, h⟩ : Fin 50000) = n := fun h => Fin.ext ((congrArg (· + n.val) e1).trans (Nat.zero_add _))
  have f2 : ∀ h, (⟨_, h⟩ : Fin 2) = k := fun h => Fin.ext ((congrArg (· + k.val) e2).trans (Nat.zero_add _))
  exact congr (congr (congrArg ix3 (f0 _)) (f1 _)) (f2 _)

/-! ## Gates and states -/

theorem target_gates (r : Fin 256) : res_main_while0b_v23 V (ix2 0 r) = gate A.W (A.tgt t) (state A.W A.tgt t).1 r := by
  unfold res_main_while0b_v23 gate
  pointwise [dot_S1x2_S2x256_S1x256_1_0_0_1_n_n, dot_S1x64_S64x256_S1x256_1_0_0_1_n_n, target_pos R, R.wi, R.bi, R.wh, R.bh, R.h]

theorem target_cell (j : Fin 64) : res_main_while0b_v43 V (ix2 0 j) = (state A.W A.tgt (t + 1)).2 j := by
  show _ = nextC _ _ j
  unfold res_main_while0b_v43
  pointwise [nextC, row, Maths.sig, target_gates R, R.c]

theorem target_hidden (j : Fin 64) : res_main_while0b_v51 V (ix2 0 j) = (state A.W A.tgt (t + 1)).1 j := by
  show _ = nextH _ _ j
  have e : nextC (gate A.W (A.tgt t) (state A.W A.tgt t).1) (state A.W A.tgt t).2 j = (state A.W A.tgt (t + 1)).2 j := rfl
  unfold res_main_while0b_v51 nextH
  rw [e]
  pointwise [row, Maths.sig, target_gates R, target_cell R]

theorem others_gates (n : Fin 50000) (r : Fin 256) : res_main_while0b_v62 V (ix2 n r) = gate A.W (A.oth n t) (state A.W (A.oth n) t).1 r := by
  unfold res_main_while0b_v62 gate
  pointwise [dot_S50000x2_S2x256_S50000x256_1_0_0_1_n_n, dot_S50000x64_S64x256_S50000x256_1_0_0_1_n_n, others_pos R, R.wi, R.bi, R.wh, R.bh, R.hs]

theorem others_cell (n : Fin 50000) (j : Fin 64) : res_main_while0b_v82 V (ix2 n j) = (state A.W (A.oth n) (t + 1)).2 j := by
  show _ = nextC _ _ j
  unfold res_main_while0b_v82
  pointwise [nextC, row, Maths.sig, others_gates R, R.cs]

theorem others_hidden (n : Fin 50000) (j : Fin 64) : res_main_while0b_v90 V (ix2 n j) = (state A.W (A.oth n) (t + 1)).1 j := by
  show _ = nextH _ _ j
  have e : nextC (gate A.W (A.oth n t) (state A.W (A.oth n) t).1) (state A.W (A.oth n) t).2 j = (state A.W (A.oth n) (t + 1)).2 j := rfl
  unfold res_main_while0b_v90 nextH
  rw [e]
  pointwise [row, Maths.sig, others_gates R, others_cell R]

/-- A trip carries the buffers on. -/
theorem carried_step : Carried (STEP V) A (t + 1) where
  tgt s k := (congrFun (STEP_main_v6_0 V) _).trans (R.tgt s k)
  oth s n k := (congrFun (STEP_main_v6_1 V) _).trans (R.oth s n k)
  mask n := (congrFun (STEP_main_v6_2 V) _).trans (R.mask n)
  wi r k := (congrFun (STEP_main_v6_3 V) _).trans (R.wi r k)
  bi r := (congrFun (STEP_main_v6_4 V) _).trans (R.bi r)
  wh r k := (congrFun (STEP_main_v6_5 V) _).trans (R.wh r k)
  bh r := (congrFun (STEP_main_v6_6 V) _).trans (R.bh r)
  w1 j k := (congrFun (STEP_main_v6_7 V) _).trans (R.w1 j k)
  b1 j := (congrFun (STEP_main_v6_8 V) _).trans (R.b1 j)
  w2 j k := (congrFun (STEP_main_v6_9 V) _).trans (R.w2 j k)
  b2 j := (congrFun (STEP_main_v6_10 V) _).trans (R.b2 j)
  trip := by
    rw [STEP_main_v6_11]
    unfold step_main_v6_11
    rw [R.trip]
    funext i
    revert t
    intro t _
    exact (by decide : ∀ t : Fin 15, IntOp.addi (BitVec.ofNat 32 t.val) 1#32 = BitVec.ofNat 32 (t.val + 1)) t
  h k := (congrFun (STEP_main_v6_12 V) _).trans (target_hidden R k)
  c k := (congrFun (STEP_main_v6_13 V) _).trans (target_cell R k)
  hs n k := (congrFun (STEP_main_v6_14 V) _).trans (others_hidden R n k)
  cs n k := (congrFun (STEP_main_v6_15 V) _).trans (others_cell R n k)

end Cert.Value.Reference

end
-- ==== Proof.Value.Scatter.lean ====
/-
  The reference's sum by cell: the accumulating scatter into the sixteen rows, read at a row and a column,
  is the sum over the neighbours whose cell number is the row.
-/
module

public import proofs.«01_k».proof.Proof.Gen.ReferenceIdeal.Run
public import proofs.«01_k».proof.Proof.Maths.Half
public import Idealize.ShloMosaic.Lib.Pointwise

@[expose] public section

noncomputable section

namespace Cert.Value.Reference

open Idealize.ShloMosaic
open Cert.ReferenceIdeal Cert.Maths
open Facts₀ Facts

theorem start_row (n : Fin 50000) (k : Fin 64) (idx : IVec S50000x1 32) :
    scatter_S16x64_S50000x1_S50000x64_1_0_0_1.start (ix2 n k) idx 0 = (idx (ix2 n 0)).toInt := by
  unfold ScatterDims.start
  rw [dif_pos (by decide)]
  congr 2
  funext b
  fin_cases b <;> rfl

theorem start_column (n : Fin 50000) (k : Fin 64) (idx : IVec S50000x1 32) :
    scatter_S16x64_S50000x1_S50000x64_1_0_0_1.start (ix2 n k) idx 1 = 0 := by
  unfold ScatterDims.start
  rw [dif_neg (by decide)]

theorem window_row (n : Fin 50000) (k : Fin 64) :
    scatter_S16x64_S50000x1_S50000x64_1_0_0_1.window (ix2 n k) 0 = 0 := rfl

theorem window_column (n : Fin 50000) (k : Fin 64) :
    scatter_S16x64_S50000x1_S50000x64_1_0_0_1.window (ix2 n k) 1 = k.val := rfl

/-- Update `(n, k)` goes to row `idx n`, column `k`. -/
theorem lands_iff (n : Fin 50000) (k : Fin 64) (idx : IVec S50000x1 32) (q : Fin 16) (j : Fin 64) :
    scatter_S16x64_S50000x1_S50000x64_1_0_0_1.resultIdx? (ix2 n k) idx = some (ix2 q j) ↔ (idx (ix2 n 0)).toInt = q.val ∧ k = j := by
  have s0 := start_row n k idx
  have s1 := start_column n k idx
  have w0 := window_row n k
  have w1 := window_column n k
  unfold ScatterDims.resultIdx?
  constructor
  · intro h
    split at h
    · rename_i hb
      have h := Option.some.inj h
      have h0 := congrArg Fin.val (congrFun h 0)
      have h1 := congrArg Fin.val (congrFun h 1)
      have b0 := (hb 0).1
      replace h0 : (scatter_S16x64_S50000x1_S50000x64_1_0_0_1.start (ix2 n k) idx 0 + scatter_S16x64_S50000x1_S50000x64_1_0_0_1.window (ix2 n k) 0).toNat = q.val := h0
      replace h1 : (scatter_S16x64_S50000x1_S50000x64_1_0_0_1.start (ix2 n k) idx 1 + scatter_S16x64_S50000x1_S50000x64_1_0_0_1.window (ix2 n k) 1).toNat = j.val := h1
      rw [s0, w0] at h0 b0
      rw [s1, w1] at h1
      exact ⟨by omega, Fin.ext (by omega)⟩
    · exact absurd h (by simp)
  · rintro ⟨h, rfl⟩
    have hq := q.isLt
    have hk := k.isLt
    have e0 : scatter_S16x64_S50000x1_S50000x64_1_0_0_1.start (ix2 n k) idx 0 + scatter_S16x64_S50000x1_S50000x64_1_0_0_1.window (ix2 n k) 0 = q.val := by
      rw [s0, w0, h]; rfl
    have e1 : scatter_S16x64_S50000x1_S50000x64_1_0_0_1.start (ix2 n k) idx 1 + scatter_S16x64_S50000x1_S50000x64_1_0_0_1.window (ix2 n k) 1 = k.val := by
      rw [s1, w1]; simp
    rw [dif_pos]
    · congr 1
      funext a
      refine Fin.ext ?_
      revert a
      refine Fin.forall_fin_two.2 ⟨?_, ?_⟩
      · exact (congrArg Int.toNat e0).trans rfl
      · exact (congrArg Int.toNat e1).trans rfl
    · refine Fin.forall_fin_two.2 ⟨?_, ?_⟩
      · rw [e0]; exact ⟨by omega, by show (q.val : Int) < 16; omega⟩
      · rw [e1]; exact ⟨by omega, by show (k.val : Int) < 64; omega⟩

/-- The accumulating scatter at `(q, j)`. -/
theorem scatter_at (x : FVec Ideal S16x64 .f32) (idx : IVec S50000x1 32) (u : FVec Ideal S50000x64 .f32) (q : Fin 16) (j : Fin 64) :
    Host.scatterAdd scatter_S16x64_S50000x1_S50000x64_1_0_0_1 x idx u (ix2 q j)
      = ((x (ix2 q j) : EReal) + ∑ n : Fin 50000, if (idx (ix2 n 0)).toInt = q.val then (u (ix2 n j) : EReal) else 0 : EReal) := by
  unfold Host.scatterAdd
  rw [Ideal.hostScatterAdd_def]
  unfold Ideal.hostScatterAdd
  rw [Finset.sum_filter, sum_idx2]
  refine congrArg (fun z : EReal => (x (ix2 q j) : EReal) + z) ?_
  refine Finset.sum_congr rfl fun n _ => ?_
  simp only [lands_iff]
  by_cases h : (idx (ix2 n 0)).toInt = q.val
  · simp only [h, true_and, if_true]
    exact (Finset.sum_ite_eq' Finset.univ j _).trans (if_pos (Finset.mem_univ _))
  · simp only [h, false_and, if_false, Finset.sum_const_zero]

/-- A neighbour's term of that sum is its share of the cell. -/
theorem term_eq_share (rx ry : EReal) (mk : BitVec 32) (q : Fin 16) (v : EReal) :
    (if (Scalar.select (counts rx ry mk) (cellNo rx ry) 0#32 : BitVec 32).toInt = q.val then Scalar.select (counts rx ry mk) v (0 : EReal) else 0) = share rx ry mk q.val v := by
  have hq : ((q.val : ℕ) : Int) = (BitVec.ofNat 32 q.val).toInt := by revert q; decide
  unfold share
  rcases (by decide : ∀ b : BitVec 1, b = 0#1 ∨ b = 1#1) (counts rx ry mk) with h | h
  · rw [h, if_neg (c := 0#1 = 1#1 ∧ _) (fun hh => absurd hh.1 (by decide))]
    show (if _ then (0 : EReal) else 0) = 0
    split <;> rfl
  · rw [h, hq]
    show (if (cellNo rx ry).toInt = _ then v else 0) = _
    simp only [BitVec.toInt_inj, true_and]

end Cert.Value.Reference

end
-- ==== Proof.Value.RefLast.lean ====
/-
  What the reference makes of the last trip: the target's hidden state plus the two layers of the sixteen
  sums, and from it the result.
-/
module

public import proofs.«01_k».proof.Proof.Value.RefStep
public import proofs.«01_k».proof.Proof.Value.Scatter

@[expose] public section

noncomputable section

namespace Cert.Value.Reference

open Idealize.ShloMosaic Idealize.ShloMosaic.TcCoe
open Cert.ReferenceIdeal Cert.ReferenceIdeal.Value Cert.Maths
open Facts₀ Facts

theorem div_by_one (r : EReal) : Ideal.div r 1 = r := by
  unfold Ideal.div
  simp

/-- The first layer over the flattened sums, column by column. -/
theorem flat_layer (A : Inputs) (w : FVec Ideal S16x64 .f32) (s : Fin 16 → Fin 64 → EReal) (hs : ∀ q k, w (ix2 q k) = s q k) (x : Fin 64) :
    max ((∑ k : Fin 1024, (w (ix2 ⟨k.val / 64, by have := k.isLt; omega⟩ ⟨k.val % 64, Nat.mod_lt _ (by decide)⟩) : EReal) * A.w1 x k) + A.b1 x) (0 : EReal) = layer1 A s x := by
  unfold layer1
  rw [Fin.sum_univ_tiles 16 64 (by decide)]
  refine congrArg (fun z : EReal => max (z + A.b1 x) 0) (Finset.sum_congr rfl fun q _ => Finset.sum_congr rfl fun k _ => ?_)
  have hk := k.isLt
  rw [← hs]
  refine congrArg₂ (fun (a b : EReal) => a * b) (congrArg₂ (fun a b => (w (ix2 a b) : EReal)) (Fin.ext ?_) (Fin.ext ?_)) rfl
  · show (q.val * 64 + k.val) / 64 = q.val; omega
  · show (q.val * 64 + k.val) % 64 = k.val; omega

variable {V : Valuation τ sig (Elt Ideal)} {A : Inputs} (R : Carried V A (14 : Fin 15))
include R

theorem distance (n : Fin 50000) (k : Fin 2) : res_main_while0b_v93 V (ix2 n k) = A.oth n 14 k - A.tgt 14 k := by
  unfold res_main_while0b_v93
  pointwise [target_pos R, others_pos R]

theorem cells_x (n : Fin 50000) : res_main_while0b_v112 V (ix1 n) = cellOf (A.oth n 14 0 - A.tgt 14 0) := by
  unfold res_main_while0b_v112 res_main_while0b_v108
  pointwise [distance R, div_by_one, cellOf]

theorem cells_y (n : Fin 50000) : res_main_while0b_v120 V (ix1 n) = cellOf (A.oth n 14 1 - A.tgt 14 1) := by
  unfold res_main_while0b_v120 res_main_while0b_v116
  pointwise [distance R, div_by_one, cellOf]

/-- The last mask row. -/
theorem mask_row (n : Fin 50000) :
    shapeCast S50000 (Host.dynamicSlice S1x50000 (V (Proc.devRef .tc main_v6_2)) (fun k => (((![V (Proc.devRef .tc main_v6_11), constantI S_ 32 0#32] : Fin 2 → (⟨S_, .i32⟩ : BufTy).Contents (Elt Ideal))) k (Shape.Idx.first h_S_)).toInt) sliceFits_S15x50000_S1x50000) shapeCasts_S1x50000_S50000 (ix1 n) = A.mask n := by
  rw [← R.mask]
  have e0 : Host.clampedStart S15x50000 S1x50000 (by decide) (fun a => BitVec.toInt (((![V (Proc.devRef .tc main_v6_11), constantI S_ 32 0#32] : Fin 2 → (⟨S_, .i32⟩ : BufTy).Contents (Elt Ideal))) a (Shape.Idx.first h_S_))) 0 = 14 :=
    Host.clampedStart_of_le _ _ _ _ ((congrArg BitVec.toInt (congrFun R.trip _)).trans (word_toInt 14)) (by decide)
  have e1 : Host.clampedStart S15x50000 S1x50000 (by decide) (fun a => BitVec.toInt (((![V (Proc.devRef .tc main_v6_11), constantI S_ 32 0#32] : Fin 2 → (⟨S_, .i32⟩ : BufTy).Contents (Elt Ideal))) a (Shape.Idx.first h_S_))) 1 = 0 :=
    Host.clampedStart_of_le _ _ _ _ rfl (by decide)
  pointwise
  congr 1
  refine congrArg₂ _ (Fin.ext e0) (Fin.ext ?_)
  exact (congrArg (· + n.val) e1).trans (Nat.zero_add _)

theorem valid (n : Fin 50000) : res_main_while0b_v135 V (ix1 n) = counts (A.oth n 14 0 - A.tgt 14 0) (A.oth n 14 1 - A.tgt 14 1) (A.mask n) := by
  have hm := mask_row R n
  unfold res_main_while0b_v135
  generalize shapeCast S50000 (Host.dynamicSlice S1x50000 (V (Proc.devRef .tc main_v6_2)) (fun k => (((![V (Proc.devRef .tc main_v6_11), constantI S_ 32 0#32] : Fin 2 → (⟨S_, .i32⟩ : BufTy).Contents (Elt Ideal))) k (Shape.Idx.first h_S_)).toInt) sliceFits_S15x50000_S1x50000) shapeCasts_S1x50000_S50000 = w at hm ⊢
  pointwise [distance R, cells_x R, cells_y R, counts, hm]

/-- The sixteen sums. -/
theorem sums (q : Fin 16) (j : Fin 64) :
    Host.scatterAdd scatter_S16x64_S50000x1_S50000x64_1_0_0_1 (broadcastInDim S16x64 ![] bcast_S_S16x64 (constant S_ .f32 0x00000000#32) : FVec Ideal S16x64 .f32) (broadcastInDim S50000x1 ![0] bcast_S50000_S50000x1_0 (select (res_main_while0b_v135 V) (addi (muli (res_main_while0b_v120 V) (broadcastInDim S50000 ![] bcast_S_S50000 (constantI S_ 32 4#32))) (res_main_while0b_v112 V)) (broadcastInDim S50000 ![] bcast_S_S50000 (id (constantI S_ 32 0#32))))) (select (broadcastInDim S50000x64 ![0, 1] bcast_S50000x1_S50000x64_0_1 (broadcastInDim S50000x1 ![0] bcast_S50000_S50000x1_0 (res_main_while0b_v135 V))) (res_main_while0b_v90 V) (broadcastInDim S50000x64 ![] bcast_S_S50000x64 (id (constant S_ .f32 0x00000000#32)))) (ix2 q j) = social A q j := by
  rw [scatter_at]
  unfold social part
  simp only [id_eq]
  pointwise [valid R, cells_x R, cells_y R, others_hidden R]
  exact Finset.sum_congr rfl fun n _ => term_eq_share _ _ _ _ _

/-- The combination the last trip leaves. -/
theorem combined (j : Fin 64) : STEP V (Proc.devRef .tc main_v6_16) (ix2 0 j) = (state A.W A.tgt 15).1 j + layer2 A (social A) j := by
  rw [STEP_main_v6_16]
  have hs := sums R
  unfold step_main_v6_16
  show addf _ _ (ix2 0 j) = _
  generalize Host.scatterAdd scatter_S16x64_S50000x1_S50000x64_1_0_0_1 (broadcastInDim S16x64 ![] bcast_S_S16x64 (constant S_ .f32 0x00000000#32) : FVec Ideal S16x64 .f32) (broadcastInDim S50000x1 ![0] bcast_S50000_S50000x1_0 (select (res_main_while0b_v135 V) (addi (muli (res_main_while0b_v120 V) (broadcastInDim S50000 ![] bcast_S_S50000 (constantI S_ 32 4#32))) (res_main_while0b_v112 V)) (broadcastInDim S50000 ![] bcast_S_S50000 (id (constantI S_ 32 0#32))))) (select (broadcastInDim S50000x64 ![0, 1] bcast_S50000x1_S50000x64_0_1 (broadcastInDim S50000x1 ![0] bcast_S50000_S50000x1_0 (res_main_while0b_v135 V))) (res_main_while0b_v90 V) (broadcastInDim S50000x64 ![] bcast_S_S50000x64 (id (constant S_ .f32 0x00000000#32)))) = w at hs ⊢
  pointwise [dot_S1x64_S64x64_S1x64_1_0_0_1_n_n, dot_S1x1024_S1024x64_S1x64_1_0_0_1_n_n, target_hidden R, R.w1, R.b1, R.w2, R.b2]
  unfold layer2
  refine congrArg (fun z : EReal => (state A.W A.tgt 15).1 j + (z + A.b2 j)) (Finset.sum_congr rfl fun x _ => ?_)
  rw [flat_layer A w (social A) hs]

end Cert.Value.Reference

end
-- ==== Proof.Value.RefValue.lean ====
/-
  The reference's result: the loop starts from the arguments and zero states, runs its fifteen trips, and the
  last layer gives the problem's result.
-/
module

public import proofs.«01_k».proof.Proof.Value.RefLast
public import proofs.«01_k».proof.Proof.Maths.Args

@[expose] public section

noncomputable section

namespace Cert.Value.Reference

open Idealize.ShloMosaic Idealize.ShloMosaic.TcCoe Idealize.ShloMosaic.Tactic
open Idealize.ShloMosaic.StableHlo
open Cert.ReferenceIdeal Cert.ReferenceIdeal.Value Cert.Maths
open Facts₀ Facts

variable (m : (ℓ : Loc nD τ Cert.ReferenceIdeal.sig) → Buf (Elt Ideal) ℓ) (c : Dev nD)

/-- The problem's inputs as the reference holds them. -/
def args : Inputs :=
  inputs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12))

theorem entry_target : entryContents preI m c (Proc.devRef .tc main_v6_0) = shapeCast S15x2 (m ((c.tc : Thread nD τ).loc main_arg0)) shapeCasts_S15x1x2_S15x2 := by
  simp only [entryContents, afterL_cons, afterL_nil]
  after_reads_simp
  rfl

theorem entry_others : entryContents preI m c (Proc.devRef .tc main_v6_1) = m ((c.tc : Thread nD τ).loc main_arg1) := by
  simp only [entryContents, afterL_cons, afterL_nil]
  after_reads_simp
  rfl

theorem entry_mask : entryContents preI m c (Proc.devRef .tc main_v6_2) = m ((c.tc : Thread nD τ).loc main_arg2) := by
  simp only [entryContents, afterL_cons, afterL_nil]
  after_reads_simp
  rfl

theorem entry_wi : entryContents preI m c (Proc.devRef .tc main_v6_3) = m ((c.tc : Thread nD τ).loc main_arg3) := by
  simp only [entryContents, afterL_cons, afterL_nil]
  after_reads_simp
  rfl

theorem entry_bi : entryContents preI m c (Proc.devRef .tc main_v6_4) = m ((c.tc : Thread nD τ).loc main_arg4) := by
  simp only [entryContents, afterL_cons, afterL_nil]
  after_reads_simp
  rfl

theorem entry_wh : entryContents preI m c (Proc.devRef .tc main_v6_5) = m ((c.tc : Thread nD τ).loc main_arg5) := by
  simp only [entryContents, afterL_cons, afterL_nil]
  after_reads_simp
  rfl

theorem entry_bh : entryContents preI m c (Proc.devRef .tc main_v6_6) = m ((c.tc : Thread nD τ).loc main_arg6) := by
  simp only [entryContents, afterL_cons, afterL_nil]
  after_reads_simp
  rfl

theorem entry_w1 : entryContents preI m c (Proc.devRef .tc main_v6_7) = m ((c.tc : Thread nD τ).loc main_arg7) := by
  simp only [entryContents, afterL_cons, afterL_nil]
  after_reads_simp
  rfl

theorem entry_b1 : entryContents preI m c (Proc.devRef .tc main_v6_8) = m ((c.tc : Thread nD τ).loc main_arg8) := by
  simp only [entryContents, afterL_cons, afterL_nil]
  after_reads_simp
  rfl

theorem entry_w2 : entryContents preI m c (Proc.devRef .tc main_v6_9) = m ((c.tc : Thread nD τ).loc main_arg9) := by
  simp only [entryContents, afterL_cons, afterL_nil]
  after_reads_simp
  rfl

theorem entry_b2 : entryContents preI m c (Proc.devRef .tc main_v6_10) = m ((c.tc : Thread nD τ).loc main_arg10) := by
  simp only [entryContents, afterL_cons, afterL_nil]
  after_reads_simp
  rfl

theorem entry_h : entryContents preI m c (Proc.devRef .tc main_v6_12) = (broadcastInDim S1x64 ![] bcast_S_S1x64 (constant S_ .f32 0x00000000#32) : FVec Ideal S1x64 .f32) := by
  simp only [entryContents, afterL_cons, afterL_nil]
  after_reads_simp
  rfl

theorem entry_c : entryContents preI m c (Proc.devRef .tc main_v6_13) = (broadcastInDim S1x64 ![] bcast_S_S1x64 (constant S_ .f32 0x00000000#32) : FVec Ideal S1x64 .f32) := by
  simp only [entryContents, afterL_cons, afterL_nil]
  after_reads_simp
  rfl

theorem entry_hs : entryContents preI m c (Proc.devRef .tc main_v6_14) = (broadcastInDim S50000x64 ![] bcast_S_S50000x64 (constant S_ .f32 0x00000000#32) : FVec Ideal S50000x64 .f32) := by
  simp only [entryContents, afterL_cons, afterL_nil]
  after_reads_simp
  rfl

theorem entry_cs : entryContents preI m c (Proc.devRef .tc main_v6_15) = (broadcastInDim S50000x64 ![] bcast_S_S50000x64 (constant S_ .f32 0x00000000#32) : FVec Ideal S50000x64 .f32) := by
  simp only [entryContents, afterL_cons, afterL_nil]
  after_reads_simp
  rfl

/-- The loop's entry. -/
theorem carried_entry : Carried (entryContents preI m c) (args m c) 0 where
  tgt s k := by
    rw [entry_target]
    show _ = m ((c.tc : Thread nD τ).loc main_arg0) (ix3 (Fin.ofNat 15 s.val) 0 k)
    rw [time_eq]
    pointwise
  oth s n k := by
    rw [entry_others]
    show _ = m ((c.tc : Thread nD τ).loc main_arg1) (ix3 (Fin.ofNat 15 s.val) n k)
    rw [time_eq]
  mask n := congrFun (entry_mask m c) _
  wi r k := congrFun (entry_wi m c) _
  bi r := congrFun (entry_bi m c) _
  wh r k := congrFun (entry_wh m c) _
  bh r := congrFun (entry_bh m c) _
  w1 j k := congrFun (entry_w1 m c) _
  b1 j := congrFun (entry_b1 m c) _
  w2 j k := congrFun (entry_w2 m c) _
  b2 j := congrFun (entry_b2 m c) _
  trip := ctr_entry m c
  h k := by
    rw [entry_h]
    show _ = (0 : EReal)
    pointwise
  c k := by
    rw [entry_c]
    show _ = (0 : EReal)
    pointwise
  hs n k := by
    rw [entry_hs]
    show _ = (0 : EReal)
    pointwise
  cs n k := by
    rw [entry_cs]
    show _ = (0 : EReal)
    pointwise

/-- Before trip `t`. -/
theorem carried_at : ∀ t : ℕ, t < 15 → Carried (STEP^[t] (entryContents preI m c)) (args m c) t
  | 0, _ => carried_entry m c
  | t + 1, h => by
    rw [Function.iterate_succ_apply']
    exact carried_step (t := ⟨t, by omega⟩) (carried_at t (by omega))

/-- The reference's result. -/
theorem result_at (j : Fin 2) : out_main_v10 (STEP^[15] (entryContents preI m c)) (ix2 0 j) = out (args m c) j := by
  have h : ∀ k : Fin 64, (STEP^[15] (entryContents preI m c)) (Proc.devRef .tc main_v6_16) (ix2 0 k) = (state (args m c).W (args m c).tgt 15).1 k + layer2 (args m c) (social (args m c)) k := fun k => by
    rw [Function.iterate_succ_apply' STEP 14]
    exact combined (carried_at m c 14 (by decide)) k
  have w := iter_main_arg11 m c 15
  have b := iter_main_arg12 m c 15
  unfold out_main_v10
  rw [w, b]
  unfold out
  pointwise [dot_S1x64_S64x2_S1x2_1_0_0_1_n_n, h]
  rfl

end Cert.Value.Reference

end
-- ==== Proof.Value.Algebraic.lean ====
/-
  The value claim: from the same arguments the kernel and the reference leave the same result, and both leave
  their arguments as they were.
-/
module

public import proofs.«01_k».proof.Defs
public import proofs.«01_k».proof.Proof.Value.KernelResult
public import proofs.«01_k».proof.Proof.Value.RefValue

@[expose] public section

noncomputable section

namespace Cert.Value

open Idealize.ShloMosaic Idealize.ShloMosaic.TcCoe Idealize.ShloMosaic.Tactic
open Idealize.SL.Sem

/-- Two rows of two numbers are the same when they agree at both places. -/
theorem row_ext (X Y : FVec Ideal Cert.KernelIdeal.S1x2 .f32) (h : ∀ j : Fin 2, X (ix2 0 j) = Y (ix2 0 j)) : X = Y := by
  funext i
  have hi : i = ix2 0 (i 1) := by
    funext a
    match a with
    | ⟨0, _⟩ => exact Subsingleton.elim (α := Fin 1) _ _
    | ⟨1, _⟩ => rfl
  rw [hi]
  exact h _

theorem algebraic : algebraic_KernelIdeal_ReferenceIdeal := by
  intro m g m' g' _ hArgs
  refine ⟨fun c => Cert.KernelIdeal.Hand.left1 m c, ?_, ?_⟩
  · refine (θ_run Cert.KernelIdeal.defs _ _).mono (fun r h c => ⟨h.2 c, h.1.1 c⟩)
      (θ_run_and (Cert.KernelIdeal.Hand.frame (F := Ideal) m g) (Cert.KernelIdeal.Hand.run_result (F := Ideal) m g))
  · refine (θ_run Cert.ReferenceIdeal.defs _ _).mono (fun r h c => ⟨(h c).1.trans ?_, (h c).2⟩)
      (Cert.ReferenceIdeal.Value.run m' g')
    have hA : Reference.args m' c = Kernel.args m c := by
      obtain ⟨h0, h1, h2, h3, h4, h5, h6, h7, h8, h9, h10, h11, h12⟩ := hArgs c
      unfold Reference.args Kernel.args
      rw [h0, h1, h2, h3, h4, h5, h6, h7, h8, h9, h10, h11, h12]
    refine row_ext _ _ fun j => ?_
    rw [Reference.result_at, hA]
    exact (Kernel.left1_at m c j).symm

end Cert.Value

end
-- ==== Proof.lean ====
/-
  The claims, put together from the modules under Proof/: the frames of the kernel at both printings and
  of the reference, that the kernel at the ideal semantics is the kernel's own text, and that its result is the
  reference's.
-/
module

public import proofs.«01_k».proof.Defs
public import proofs.«01_k».proof.Proof.Twin
public import proofs.«01_k».proof.Proof.ReferenceFrame
public import proofs.«01_k».proof.Proof.Value.Algebraic
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- Everything that is claimed. -/
theorem claim : Cert.Claim :=
  ⟨Cert.Kernel.Gen.facts, Cert.KernelIdeal.Gen.facts, Cert.ReferenceIdeal.Gen.facts,
    Cert.Twin.frame,
    fun m ρ _ => Cert.KernelIdeal.Hand.frame (F := Ideal) m ρ,
    Cert.RefFrame.frame,
    trivial,
    Cert.Value.algebraic⟩

end Cert.Proof

end
